-- ==== Defs.lean ====
def Pre_Backward (m : (ℓ : Loc Cert.Backward.nD Cert.Backward.τ Cert.Backward.sig) → Buf (Elt Bits) ℓ) : Prop :=
  True

def Pre_BackwardIdeal (m : (ℓ : Loc Cert.BackwardIdeal.nD Cert.BackwardIdeal.τ Cert.BackwardIdeal.sig) → Buf (Elt Ideal) ℓ) : Prop :=
  True

def Pre_RefBackwardIdeal (m : (ℓ : Loc Cert.RefBackwardIdeal.nD Cert.RefBackwardIdeal.τ Cert.RefBackwardIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_RefForwardIdeal (m : (ℓ : Loc Cert.RefForwardIdeal.nD Cert.RefForwardIdeal.τ Cert.RefForwardIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_RefQuantiseIdeal (m : (ℓ : Loc Cert.RefQuantiseIdeal.nD Cert.RefQuantiseIdeal.τ Cert.RefQuantiseIdeal.sig) → Buf (Elt Ideal) ℓ) : Prop :=
  True

def quiescent_Backward [hBackward : Cert.Backward.Facts] : Prop :=
  ∀ (m : (ℓ : Loc Cert.Backward.nD Cert.Backward.τ Cert.Backward.sig) → Buf (Elt Bits) ℓ) (g : Dev Cert.Backward.nD → PrngReg), Pre_Backward m →
    θ_run (Cert.Backward.defs (F := Bits)) (onTc (τ := Cert.Backward.τ) (Cert.Backward.main (F := Bits))) ⟨m, fun _ => 0, g⟩ (fun r => (∀ c : Dev Cert.Backward.nD,
      r.2.mem ((c.tc : Thread Cert.Backward.nD Cert.Backward.τ).loc Cert.Backward.main_arg0) = m ((c.tc : Thread Cert.Backward.nD Cert.Backward.τ).loc Cert.Backward.main_arg0)
      ∧ r.2.mem ((c.tc : Thread Cert.Backward.nD Cert.Backward.τ).loc Cert.Backward.main_arg1) = m ((c.tc : Thread Cert.Backward.nD Cert.Backward.τ).loc Cert.Backward.main_arg1)
      ∧ r.2.mem ((c.tc : Thread Cert.Backward.nD Cert.Backward.τ).loc Cert.Backward.main_arg2) = m ((c.tc : Thread Cert.Backward.nD Cert.Backward.τ).loc Cert.Backward.main_arg2)
      ∧ r.2.mem ((c.tc : Thread Cert.Backward.nD Cert.Backward.τ).loc Cert.Backward.main_arg3) = m ((c.tc : Thread Cert.Backward.nD Cert.Backward.τ).loc Cert.Backward.main_arg3)
      ∧ r.2.mem ((c.tc : Thread Cert.Backward.nD Cert.Backward.τ).loc Cert.Backward.main_arg4) = m ((c.tc : Thread Cert.Backward.nD Cert.Backward.τ).loc Cert.Backward.main_arg4)
      ∧ r.2.mem ((c.tc : Thread Cert.Backward.nD Cert.Backward.τ).loc Cert.Backward.main_arg5) = m ((c.tc : Thread Cert.Backward.nD Cert.Backward.τ).loc Cert.Backward.main_arg5)
      ∧ r.2.mem ((c.tc : Thread Cert.Backward.nD Cert.Backward.τ).loc Cert.Backward.main_arg6) = m ((c.tc : Thread Cert.Backward.nD Cert.Backward.τ).loc Cert.Backward.main_arg6))
      ∧ r.2.sem = fun _ => 0)

def quiescent_BackwardIdeal [hBackwardIdeal : Cert.BackwardIdeal.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
      ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
      ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
      ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6))
      ∧ r.2.sem = fun _ => 0)

def quiescent_RefBackwardIdeal [hRefBackwardIdeal : Cert.RefBackwardIdeal.Facts] : Prop :=
  ∀ (m : (ℓ : Loc Cert.RefBackwardIdeal.nD Cert.RefBackwardIdeal.τ Cert.RefBackwardIdeal.sig) → Buf (Elt Ideal) ℓ) (g : Dev Cert.RefBackwardIdeal.nD → PrngReg), Pre_RefBackwardIdeal m →
    θ_run (Cert.RefBackwardIdeal.defs (F := Ideal)) (onTc (τ := Cert.RefBackwardIdeal.τ) (Cert.RefBackwardIdeal.main (F := Ideal))) ⟨m, fun _ => 0, g⟩ (fun r => (∀ c : Dev Cert.RefBackwardIdeal.nD,
      r.2.mem ((c.tc : Thread Cert.RefBackwardIdeal.nD Cert.RefBackwardIdeal.τ).loc Cert.RefBackwardIdeal.main_arg0) = m ((c.tc : Thread Cert.RefBackwardIdeal.nD Cert.RefBackwardIdeal.τ).loc Cert.RefBackwardIdeal.main_arg0)
      ∧ r.2.mem ((c.tc : Thread Cert.RefBackwardIdeal.nD Cert.RefBackwardIdeal.τ).loc Cert.RefBackwardIdeal.main_arg1) = m ((c.tc : Thread Cert.RefBackwardIdeal.nD Cert.RefBackwardIdeal.τ).loc Cert.RefBackwardIdeal.main_arg1)
      ∧ r.2.mem ((c.tc : Thread Cert.RefBackwardIdeal.nD Cert.RefBackwardIdeal.τ).loc Cert.RefBackwardIdeal.main_arg2) = m ((c.tc : Thread Cert.RefBackwardIdeal.nD Cert.RefBackwardIdeal.τ).loc Cert.RefBackwardIdeal.main_arg2)
      ∧ r.2.mem ((c.tc : Thread Cert.RefBackwardIdeal.nD Cert.RefBackwardIdeal.τ).loc Cert.RefBackwardIdeal.main_arg3) = m ((c.tc : Thread Cert.RefBackwardIdeal.nD Cert.RefBackwardIdeal.τ).loc Cert.RefBackwardIdeal.main_arg3)
      ∧ r.2.mem ((c.tc : Thread Cert.RefBackwardIdeal.nD Cert.RefBackwardIdeal.τ).loc Cert.RefBackwardIdeal.main_arg4) = m ((c.tc : Thread Cert.RefBackwardIdeal.nD Cert.RefBackwardIdeal.τ).loc Cert.RefBackwardIdeal.main_arg4)
      ∧ r.2.mem ((c.tc : Thread Cert.RefBackwardIdeal.nD Cert.RefBackwardIdeal.τ).loc Cert.RefBackwardIdeal.main_arg5) = m ((c.tc : Thread Cert.RefBackwardIdeal.nD Cert.RefBackwardIdeal.τ).loc Cert.RefBackwardIdeal.main_arg5)
      ∧ r.2.mem ((c.tc : Thread Cert.RefBackwardIdeal.nD Cert.RefBackwardIdeal.τ).loc Cert.RefBackwardIdeal.main_arg6) = m ((c.tc : Thread Cert.RefBackwardIdeal.nD Cert.RefBackwardIdeal.τ).loc Cert.RefBackwardIdeal.main_arg6))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_RefForwardIdeal [hRefForwardIdeal : Cert.RefForwardIdeal.Facts] : Prop :=
  ∀ (m : (ℓ : Loc Cert.RefForwardIdeal.nD Cert.RefForwardIdeal.τ Cert.RefForwardIdeal.sig) → Buf (Elt Ideal) ℓ) (g : Dev Cert.RefForwardIdeal.nD → PrngReg), Pre_RefForwardIdeal m →
    θ_run (Cert.RefForwardIdeal.defs (F := Ideal)) (onTc (τ := Cert.RefForwardIdeal.τ) (Cert.RefForwardIdeal.main (F := Ideal))) ⟨m, fun _ => 0, g⟩ (fun r => (∀ c : Dev Cert.RefForwardIdeal.nD,
      r.2.mem ((c.tc : Thread Cert.RefForwardIdeal.nD Cert.RefForwardIdeal.τ).loc Cert.RefForwardIdeal.main_arg0) = m ((c.tc : Thread Cert.RefForwardIdeal.nD Cert.RefForwardIdeal.τ).loc Cert.RefForwardIdeal.main_arg0)
      ∧ r.2.mem ((c.tc : Thread Cert.RefForwardIdeal.nD Cert.RefForwardIdeal.τ).loc Cert.RefForwardIdeal.main_arg1) = m ((c.tc : Thread Cert.RefForwardIdeal.nD Cert.RefForwardIdeal.τ).loc Cert.RefForwardIdeal.main_arg1)
      ∧ r.2.mem ((c.tc : Thread Cert.RefForwardIdeal.nD Cert.RefForwardIdeal.τ).loc Cert.RefForwardIdeal.main_arg2) = m ((c.tc : Thread Cert.RefForwardIdeal.nD Cert.RefForwardIdeal.τ).loc Cert.RefForwardIdeal.main_arg2)
      ∧ r.2.mem ((c.tc : Thread Cert.RefForwardIdeal.nD Cert.RefForwardIdeal.τ).loc Cert.RefForwardIdeal.main_arg3) = m ((c.tc : Thread Cert.RefForwardIdeal.nD Cert.RefForwardIdeal.τ).loc Cert.RefForwardIdeal.main_arg3)
      ∧ r.2.mem ((c.tc : Thread Cert.RefForwardIdeal.nD Cert.RefForwardIdeal.τ).loc Cert.RefForwardIdeal.main_arg4) = m ((c.tc : Thread Cert.RefForwardIdeal.nD Cert.RefForwardIdeal.τ).loc Cert.RefForwardIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_RefQuantiseIdeal [hRefQuantiseIdeal : Cert.RefQuantiseIdeal.Facts] : Prop :=
  ∀ (m : (ℓ : Loc Cert.RefQuantiseIdeal.nD Cert.RefQuantiseIdeal.τ Cert.RefQuantiseIdeal.sig) → Buf (Elt Ideal) ℓ) (g : Dev Cert.RefQuantiseIdeal.nD → PrngReg), Pre_RefQuantiseIdeal m →
    θ_run (Cert.RefQuantiseIdeal.defs (F := Ideal)) (onTc (τ := Cert.RefQuantiseIdeal.τ) (Cert.RefQuantiseIdeal.main (F := Ideal))) ⟨m, fun _ => 0, g⟩ (fun r => (∀ c : Dev Cert.RefQuantiseIdeal.nD,
      r.2.mem ((c.tc : Thread Cert.RefQuantiseIdeal.nD Cert.RefQuantiseIdeal.τ).loc Cert.RefQuantiseIdeal.main_arg0) = m ((c.tc : Thread Cert.RefQuantiseIdeal.nD Cert.RefQuantiseIdeal.τ).loc Cert.RefQuantiseIdeal.main_arg0))
      ∧ r.2.sem = fun _ => 0)

def preserves_Backward_BackwardIdeal : Prop :=
  True

def algebraic_BackwardIdeal_RefBackwardIdeal [hBackwardIdeal : Cert.BackwardIdeal.Facts] [hRefBackwardIdeal : Cert.RefBackwardIdeal.Facts] : Prop :=
  ∀ (m : (ℓ : Loc Cert.BackwardIdeal.nD Cert.BackwardIdeal.τ Cert.BackwardIdeal.sig) → Buf (Elt Ideal) ℓ) (g : Dev Cert.BackwardIdeal.nD → PrngReg)
    (m' : (ℓ : Loc Cert.RefBackwardIdeal.nD Cert.RefBackwardIdeal.τ Cert.RefBackwardIdeal.sig) → Buf (Elt Ideal) ℓ) (g' : Dev Cert.RefBackwardIdeal.nD → PrngReg), Pre_BackwardIdeal m →
    (∀ c : Dev Cert.BackwardIdeal.nD,
      m' ((c.tc : Thread Cert.RefBackwardIdeal.nD Cert.RefBackwardIdeal.τ).loc Cert.RefBackwardIdeal.main_arg0) = m ((c.tc : Thread Cert.BackwardIdeal.nD Cert.BackwardIdeal.τ).loc Cert.BackwardIdeal.main_arg0)
      ∧ m' ((c.tc : Thread Cert.RefBackwardIdeal.nD Cert.RefBackwardIdeal.τ).loc Cert.RefBackwardIdeal.main_arg1) = m ((c.tc : Thread Cert.BackwardIdeal.nD Cert.BackwardIdeal.τ).loc Cert.BackwardIdeal.main_arg1)
      ∧ m' ((c.tc : Thread Cert.RefBackwardIdeal.nD Cert.RefBackwardIdeal.τ).loc Cert.RefBackwardIdeal.main_arg2) = m ((c.tc : Thread Cert.BackwardIdeal.nD Cert.BackwardIdeal.τ).loc Cert.BackwardIdeal.main_arg2)
      ∧ m' ((c.tc : Thread Cert.RefBackwardIdeal.nD Cert.RefBackwardIdeal.τ).loc Cert.RefBackwardIdeal.main_arg3) = m ((c.tc : Thread Cert.BackwardIdeal.nD Cert.BackwardIdeal.τ).loc Cert.BackwardIdeal.main_arg3)
      ∧ m' ((c.tc : Thread Cert.RefBackwardIdeal.nD Cert.RefBackwardIdeal.τ).loc Cert.RefBackwardIdeal.main_arg4) = m ((c.tc : Thread Cert.BackwardIdeal.nD Cert.BackwardIdeal.τ).loc Cert.BackwardIdeal.main_arg4)
      ∧ m' ((c.tc : Thread Cert.RefBackwardIdeal.nD Cert.RefBackwardIdeal.τ).loc Cert.RefBackwardIdeal.main_arg5) = m ((c.tc : Thread Cert.BackwardIdeal.nD Cert.BackwardIdeal.τ).loc Cert.BackwardIdeal.main_arg5)
      ∧ m' ((c.tc : Thread Cert.RefBackwardIdeal.nD Cert.RefBackwardIdeal.τ).loc Cert.RefBackwardIdeal.main_arg6) = m ((c.tc : Thread Cert.BackwardIdeal.nD Cert.BackwardIdeal.τ).loc Cert.BackwardIdeal.main_arg6)) →
    ∃ (v0 : (c : Dev Cert.BackwardIdeal.nD) → Buf (Elt Ideal) ((c.tc : Thread Cert.BackwardIdeal.nD Cert.BackwardIdeal.τ).loc Cert.BackwardIdeal.main_v1_0)) (v1 : (c : Dev Cert.BackwardIdeal.nD) → Buf (Elt Ideal) ((c.tc : Thread Cert.BackwardIdeal.nD Cert.BackwardIdeal.τ).loc Cert.BackwardIdeal.main_v1_1)) (v2 : (c : Dev Cert.BackwardIdeal.nD) → Buf (Elt Ideal) ((c.tc : Thread Cert.BackwardIdeal.nD Cert.BackwardIdeal.τ).loc Cert.BackwardIdeal.main_v1_2)),
      θ_run (Cert.BackwardIdeal.defs (F := Ideal)) (onTc (τ := Cert.BackwardIdeal.τ) (Cert.BackwardIdeal.main (F := Ideal))) ⟨m, fun _ => 0, g⟩ (fun r => ∀ c : Dev Cert.BackwardIdeal.nD,
          r.2.mem ((c.tc : Thread Cert.BackwardIdeal.nD Cert.BackwardIdeal.τ).loc Cert.BackwardIdeal.main_v1_0) = v0 c
          ∧ r.2.mem ((c.tc : Thread Cert.BackwardIdeal.nD Cert.BackwardIdeal.τ).loc Cert.BackwardIdeal.main_v1_1) = v1 c
          ∧ r.2.mem ((c.tc : Thread Cert.BackwardIdeal.nD Cert.BackwardIdeal.τ).loc Cert.BackwardIdeal.main_v1_2) = v2 c
          ∧ r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
          ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
          ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
          ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
          ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
          ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
          ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6))
      ∧ θ_run (Cert.RefBackwardIdeal.defs (F := Ideal)) (onTc (τ := Cert.RefBackwardIdeal.τ) (Cert.RefBackwardIdeal.main (F := Ideal))) ⟨m', fun _ => 0, g'⟩ (fun r => ∀ c : Dev Cert.RefBackwardIdeal.nD,
          r.2.mem ((c.tc : Thread Cert.RefBackwardIdeal.nD Cert.RefBackwardIdeal.τ).loc Cert.RefBackwardIdeal.main_v1_0) = v0 c
          ∧ r.2.mem ((c.tc : Thread Cert.RefBackwardIdeal.nD Cert.RefBackwardIdeal.τ).loc Cert.RefBackwardIdeal.main_v1_1) = v1 c
          ∧ r.2.mem ((c.tc : Thread Cert.RefBackwardIdeal.nD Cert.RefBackwardIdeal.τ).loc Cert.RefBackwardIdeal.main_v1_2) = v2 c
          ∧ r.2.mem ((c.tc : Thread Cert.RefBackwardIdeal.nD Cert.RefBackwardIdeal.τ).loc Cert.RefBackwardIdeal.main_arg0) = m' ((c.tc : Thread Cert.RefBackwardIdeal.nD Cert.RefBackwardIdeal.τ).loc Cert.RefBackwardIdeal.main_arg0)
          ∧ r.2.mem ((c.tc : Thread Cert.RefBackwardIdeal.nD Cert.RefBackwardIdeal.τ).loc Cert.RefBackwardIdeal.main_arg1) = m' ((c.tc : Thread Cert.RefBackwardIdeal.nD Cert.RefBackwardIdeal.τ).loc Cert.RefBackwardIdeal.main_arg1)
          ∧ r.2.mem ((c.tc : Thread Cert.RefBackwardIdeal.nD Cert.RefBackwardIdeal.τ).loc Cert.RefBackwardIdeal.main_arg2) = m' ((c.tc : Thread Cert.RefBackwardIdeal.nD Cert.RefBackwardIdeal.τ).loc Cert.RefBackwardIdeal.main_arg2)
          ∧ r.2.mem ((c.tc : Thread Cert.RefBackwardIdeal.nD Cert.RefBackwardIdeal.τ).loc Cert.RefBackwardIdeal.main_arg3) = m' ((c.tc : Thread Cert.RefBackwardIdeal.nD Cert.RefBackwardIdeal.τ).loc Cert.RefBackwardIdeal.main_arg3)
          ∧ r.2.mem ((c.tc : Thread Cert.RefBackwardIdeal.nD Cert.RefBackwardIdeal.τ).loc Cert.RefBackwardIdeal.main_arg4) = m' ((c.tc : Thread Cert.RefBackwardIdeal.nD Cert.RefBackwardIdeal.τ).loc Cert.RefBackwardIdeal.main_arg4)
          ∧ r.2.mem ((c.tc : Thread Cert.RefBackwardIdeal.nD Cert.RefBackwardIdeal.τ).loc Cert.RefBackwardIdeal.main_arg5) = m' ((c.tc : Thread Cert.RefBackwardIdeal.nD Cert.RefBackwardIdeal.τ).loc Cert.RefBackwardIdeal.main_arg5)
          ∧ r.2.mem ((c.tc : Thread Cert.RefBackwardIdeal.nD Cert.RefBackwardIdeal.τ).loc Cert.RefBackwardIdeal.main_arg6) = m' ((c.tc : Thread Cert.RefBackwardIdeal.nD Cert.RefBackwardIdeal.τ).loc Cert.RefBackwardIdeal.main_arg6))

def preserves_Forward_ForwardIdeal : Prop :=
  True

def algebraic_ForwardIdeal_RefForwardIdeal [hForwardIdeal : Cert.ForwardIdeal.Facts] [hRefForwardIdeal : Cert.RefForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.RefForwardIdeal.nD Cert.RefForwardIdeal.τ Cert.RefForwardIdeal.sig) → Buf (Elt Ideal) ℓ) (g' : Dev Cert.RefForwardIdeal.nD → PrngReg), Pre_ForwardIdeal m →
    (∀ c : Dev Cert.ForwardIdeal.nD,
      m' ((c.tc : Thread Cert.RefForwardIdeal.nD Cert.RefForwardIdeal.τ).loc Cert.RefForwardIdeal.main_arg0) = m ((c.tc : Thread Cert.ForwardIdeal.nD Cert.ForwardIdeal.τ).loc Cert.ForwardIdeal.main_arg0)
      ∧ m' ((c.tc : Thread Cert.RefForwardIdeal.nD Cert.RefForwardIdeal.τ).loc Cert.RefForwardIdeal.main_arg1) = m ((c.tc : Thread Cert.ForwardIdeal.nD Cert.ForwardIdeal.τ).loc Cert.ForwardIdeal.main_arg1)
      ∧ m' ((c.tc : Thread Cert.RefForwardIdeal.nD Cert.RefForwardIdeal.τ).loc Cert.RefForwardIdeal.main_arg2) = m ((c.tc : Thread Cert.ForwardIdeal.nD Cert.ForwardIdeal.τ).loc Cert.ForwardIdeal.main_arg2)
      ∧ m' ((c.tc : Thread Cert.RefForwardIdeal.nD Cert.RefForwardIdeal.τ).loc Cert.RefForwardIdeal.main_arg3) = m ((c.tc : Thread Cert.ForwardIdeal.nD Cert.ForwardIdeal.τ).loc Cert.ForwardIdeal.main_arg3)
      ∧ m' ((c.tc : Thread Cert.RefForwardIdeal.nD Cert.RefForwardIdeal.τ).loc Cert.RefForwardIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v6_0)) (v1 : (c : Dev Cert.ForwardIdeal.nD) → Buf (Elt Ideal) ((c.tc : Thread Cert.ForwardIdeal.nD Cert.ForwardIdeal.τ).loc Cert.ForwardIdeal.main_v6_1)) (v2 : (c : Dev Cert.ForwardIdeal.nD) → Buf (Elt Ideal) ((c.tc : Thread Cert.ForwardIdeal.nD Cert.ForwardIdeal.τ).loc Cert.ForwardIdeal.main_v6_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v6_0) = v0 c
          ∧ r.2.mem ((c.tc : Thread Cert.ForwardIdeal.nD Cert.ForwardIdeal.τ).loc Cert.ForwardIdeal.main_v6_1) = v1 c
          ∧ r.2.mem ((c.tc : Thread Cert.ForwardIdeal.nD Cert.ForwardIdeal.τ).loc Cert.ForwardIdeal.main_v6_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.RefForwardIdeal.defs (F := Ideal)) (onTc (τ := Cert.RefForwardIdeal.τ) (Cert.RefForwardIdeal.main (F := Ideal))) ⟨m', fun _ => 0, g'⟩ (fun r => ∀ c : Dev Cert.RefForwardIdeal.nD,
          r.2.mem ((c.tc : Thread Cert.RefForwardIdeal.nD Cert.RefForwardIdeal.τ).loc Cert.RefForwardIdeal.main_v2_0) = v0 c
          ∧ r.2.mem ((c.tc : Thread Cert.RefForwardIdeal.nD Cert.RefForwardIdeal.τ).loc Cert.RefForwardIdeal.main_v2_1) = v1 c
          ∧ r.2.mem ((c.tc : Thread Cert.RefForwardIdeal.nD Cert.RefForwardIdeal.τ).loc Cert.RefForwardIdeal.main_v2_2) = v2 c
          ∧ r.2.mem ((c.tc : Thread Cert.RefForwardIdeal.nD Cert.RefForwardIdeal.τ).loc Cert.RefForwardIdeal.main_arg0) = m' ((c.tc : Thread Cert.RefForwardIdeal.nD Cert.RefForwardIdeal.τ).loc Cert.RefForwardIdeal.main_arg0)
          ∧ r.2.mem ((c.tc : Thread Cert.RefForwardIdeal.nD Cert.RefForwardIdeal.τ).loc Cert.RefForwardIdeal.main_arg1) = m' ((c.tc : Thread Cert.RefForwardIdeal.nD Cert.RefForwardIdeal.τ).loc Cert.RefForwardIdeal.main_arg1)
          ∧ r.2.mem ((c.tc : Thread Cert.RefForwardIdeal.nD Cert.RefForwardIdeal.τ).loc Cert.RefForwardIdeal.main_arg2) = m' ((c.tc : Thread Cert.RefForwardIdeal.nD Cert.RefForwardIdeal.τ).loc Cert.RefForwardIdeal.main_arg2)
          ∧ r.2.mem ((c.tc : Thread Cert.RefForwardIdeal.nD Cert.RefForwardIdeal.τ).loc Cert.RefForwardIdeal.main_arg3) = m' ((c.tc : Thread Cert.RefForwardIdeal.nD Cert.RefForwardIdeal.τ).loc Cert.RefForwardIdeal.main_arg3)
          ∧ r.2.mem ((c.tc : Thread Cert.RefForwardIdeal.nD Cert.RefForwardIdeal.τ).loc Cert.RefForwardIdeal.main_arg4) = m' ((c.tc : Thread Cert.RefForwardIdeal.nD Cert.RefForwardIdeal.τ).loc Cert.RefForwardIdeal.main_arg4))

def preserves_Quantise_QuantiseIdeal : Prop :=
  True

def algebraic_QuantiseIdeal_RefQuantiseIdeal [hQuantiseIdeal : Cert.QuantiseIdeal.Facts] [hRefQuantiseIdeal : Cert.RefQuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.RefQuantiseIdeal.nD Cert.RefQuantiseIdeal.τ Cert.RefQuantiseIdeal.sig) → Buf (Elt Ideal) ℓ) (g' : Dev Cert.RefQuantiseIdeal.nD → PrngReg), Pre_QuantiseIdeal m →
    (∀ c : Dev Cert.QuantiseIdeal.nD,
      m' ((c.tc : Thread Cert.RefQuantiseIdeal.nD Cert.RefQuantiseIdeal.τ).loc Cert.RefQuantiseIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v1_0)) (v1 : (c : Dev Cert.QuantiseIdeal.nD) → Buf (Elt Ideal) ((c.tc : Thread Cert.QuantiseIdeal.nD Cert.QuantiseIdeal.τ).loc Cert.QuantiseIdeal.main_v1_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v1_0) = v0 c
          ∧ r.2.mem ((c.tc : Thread Cert.QuantiseIdeal.nD Cert.QuantiseIdeal.τ).loc Cert.QuantiseIdeal.main_v1_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.RefQuantiseIdeal.defs (F := Ideal)) (onTc (τ := Cert.RefQuantiseIdeal.τ) (Cert.RefQuantiseIdeal.main (F := Ideal))) ⟨m', fun _ => 0, g'⟩ (fun r => ∀ c : Dev Cert.RefQuantiseIdeal.nD,
          r.2.mem ((c.tc : Thread Cert.RefQuantiseIdeal.nD Cert.RefQuantiseIdeal.τ).loc Cert.RefQuantiseIdeal.main_v25) = v0 c
          ∧ r.2.mem ((c.tc : Thread Cert.RefQuantiseIdeal.nD Cert.RefQuantiseIdeal.τ).loc Cert.RefQuantiseIdeal.main_v26) = v1 c
          ∧ r.2.mem ((c.tc : Thread Cert.RefQuantiseIdeal.nD Cert.RefQuantiseIdeal.τ).loc Cert.RefQuantiseIdeal.main_arg0) = m' ((c.tc : Thread Cert.RefQuantiseIdeal.nD Cert.RefQuantiseIdeal.τ).loc Cert.RefQuantiseIdeal.main_arg0))

def Claim : Prop :=
  ∃ (hBackward : Cert.Backward.Facts) (hBackwardIdeal : Cert.BackwardIdeal.Facts) (hRefBackwardIdeal : Cert.RefBackwardIdeal.Facts) (hForward : Cert.Forward.Facts) (hForwardIdeal : Cert.ForwardIdeal.Facts) (hRefForwardIdeal : Cert.RefForwardIdeal.Facts) (hQuantise : Cert.Quantise.Facts) (hQuantiseIdeal : Cert.QuantiseIdeal.Facts) (hRefQuantiseIdeal : Cert.RefQuantiseIdeal.Facts),
    quiescent_Backward (hBackward := hBackward)
    ∧ quiescent_BackwardIdeal (hBackwardIdeal := hBackwardIdeal)
    ∧ quiescent_RefBackwardIdeal (hRefBackwardIdeal := hRefBackwardIdeal)
    ∧ quiescent_Forward (hForward := hForward)
    ∧ quiescent_ForwardIdeal (hForwardIdeal := hForwardIdeal)
    ∧ quiescent_RefForwardIdeal (hRefForwardIdeal := hRefForwardIdeal)
    ∧ quiescent_Quantise (hQuantise := hQuantise)
    ∧ quiescent_QuantiseIdeal (hQuantiseIdeal := hQuantiseIdeal)
    ∧ quiescent_RefQuantiseIdeal (hRefQuantiseIdeal := hRefQuantiseIdeal)
    ∧ preserves_Backward_BackwardIdeal
    ∧ algebraic_BackwardIdeal_RefBackwardIdeal (hBackwardIdeal := hBackwardIdeal) (hRefBackwardIdeal := hRefBackwardIdeal)
    ∧ preserves_Forward_ForwardIdeal
    ∧ algebraic_ForwardIdeal_RefForwardIdeal (hForwardIdeal := hForwardIdeal) (hRefForwardIdeal := hRefForwardIdeal)
    ∧ preserves_Quantise_QuantiseIdeal
    ∧ algebraic_QuantiseIdeal_RefQuantiseIdeal (hQuantiseIdeal := hQuantiseIdeal) (hRefQuantiseIdeal := hRefQuantiseIdeal)
-- ==== Backward.lean ====
abbrev S1536x32768 : Shape := ⟨2, ![1536, 32768]⟩
abbrev S1536x2880 : Shape := ⟨2, ![1536, 2880]⟩
abbrev S1536x1 : Shape := ⟨2, ![1536, 1]⟩
abbrev S32768x2880 : Shape := ⟨2, ![32768, 2880]⟩
abbrev S32768 : Shape := ⟨1, ![32768]⟩
abbrev S1536x128 : Shape := ⟨2, ![1536, 128]⟩
abbrev S32768x1 : Shape := ⟨2, ![32768, 1]⟩
abbrev S1536x256 : Shape := ⟨2, ![1536, 256]⟩
abbrev S256x2880 : Shape := ⟨2, ![256, 2880]⟩
abbrev S256x1 : Shape := ⟨2, ![256, 1]⟩
abbrev S256x128 : Shape := ⟨2, ![256, 128]⟩
abbrev S256x256 : Shape := ⟨2, ![256, 256]⟩
abbrev S256 : Shape := ⟨1, ![256]⟩

abbrev nBuf : Space → Nat
  | .hbm => 11
  | .vmem => 18
  | .smem => 0
  | _ => 0

abbrev bufTy : (tb : Table) → Fin (tcTables nBuf tb) → BufTy
  | .hbm, ⟨0, _⟩ => ⟨S1536x32768, .f32⟩
  | .hbm, ⟨1, _⟩ => ⟨S1536x2880, .fp8e4m3⟩
  | .hbm, ⟨2, _⟩ => ⟨S1536x1, .f32⟩
  | .hbm, ⟨3, _⟩ => ⟨S32768x2880, .fp8e4m3⟩
  | .hbm, ⟨4, _⟩ => ⟨S32768, .f32⟩
  | .hbm, ⟨5, _⟩ => ⟨S1536x1, .i32⟩
  | .hbm, ⟨6, _⟩ => ⟨S1536x128, .f32⟩
  | .hbm, ⟨7, _⟩ => ⟨S32768x1, .f32⟩
  | .hbm, ⟨8, _⟩ => ⟨S1536x2880, .bf16⟩
  | .hbm, ⟨9, _⟩ => ⟨S32768x2880, .f32⟩
  | .hbm, ⟨10, _⟩ => ⟨S1536x32768, .fp8e5m2⟩
  | .local _ .vmem, ⟨0, _⟩ => ⟨S1536x256, .f32⟩
  | .local _ .vmem, ⟨1, _⟩ => ⟨S1536x256, .f32⟩
  | .local _ .vmem, ⟨2, _⟩ => ⟨S1536x2880, .fp8e4m3⟩
  | .local _ .vmem, ⟨3, _⟩ => ⟨S1536x1, .f32⟩
  | .local _ .vmem, ⟨4, _⟩ => ⟨S256x2880, .fp8e4m3⟩
  | .local _ .vmem, ⟨5, _⟩ => ⟨S256x2880, .fp8e4m3⟩
  | .local _ .vmem, ⟨6, _⟩ => ⟨S256x1, .f32⟩
  | .local _ .vmem, ⟨7, _⟩ => ⟨S256x1, .f32⟩
  | .local _ .vmem, ⟨8, _⟩ => ⟨S1536x1, .i32⟩
  | .local _ .vmem, ⟨9, _⟩ => ⟨S1536x128, .f32⟩
  | .local _ .vmem, ⟨10, _⟩ => ⟨S1536x2880, .bf16⟩
  | .local _ .vmem, ⟨11, _⟩ => ⟨S256x2880, .f32⟩
  | .local _ .vmem, ⟨12, _⟩ => ⟨S256x2880, .f32⟩
  | .local _ .vmem, ⟨13, _⟩ => ⟨S1536x256, .fp8e5m2⟩
  | .local _ .vmem, ⟨14, _⟩ => ⟨S1536x256, .fp8e5m2⟩
  | .local _ .vmem, ⟨15, _⟩ => ⟨S1536x2880, .f32⟩
  | .local _ .vmem, ⟨16, _⟩ => ⟨S1536x256, .bf16⟩
  | .local _ .vmem, ⟨17, _⟩ => ⟨S256x2880, .bf16⟩
  | _, _ => ⟨S1536x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v397 : BitVec 1 := Scalar.cmpi .eq arg0 c127_i32
  let v398 : BitVec 32 := Scalar.extui v397
  let c0_i32_176 : BitVec 32 := 0#32
  let v399 : BitVec 1 := Scalar.cmpi .ne v398 c0_i32_176
  v399

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2880 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x2880 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2880 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x256 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefBackwardIdeal.lean ====
abbrev S1536x32768 : Shape := ⟨2, ![1536, 32768]⟩
abbrev S1536x2880 : Shape := ⟨2, ![1536, 2880]⟩
abbrev S1536x1 : Shape := ⟨2, ![1536, 1]⟩
abbrev S32768x2880 : Shape := ⟨2, ![32768, 2880]⟩
abbrev S32768 : Shape := ⟨1, ![32768]⟩
abbrev S1536x128 : Shape := ⟨2, ![1536, 128]⟩
abbrev S32768x1 : Shape := ⟨2, ![32768, 1]⟩
abbrev S1536x8 : Shape := ⟨2, ![1536, 8]⟩
abbrev S1536x8x1 : Shape := ⟨3, ![1536, 8, 1]⟩
abbrev S1536x8x4096 : Shape := ⟨3, ![1536, 8, 4096]⟩

abbrev nBuf : Space → Nat
  | .hbm => 11
  | .vmem => 10
  | .smem => 0
  | _ => 0

abbrev bufTy : (tb : Table) → Fin (tcTables nBuf tb) → BufTy
  | .hbm, ⟨0, _⟩ => ⟨S1536x32768, .f32⟩
  | .hbm, ⟨1, _⟩ => ⟨S1536x2880, .fp8e4m3⟩
  | .hbm, ⟨2, _⟩ => ⟨S1536x1, .f32⟩
  | .hbm, ⟨3, _⟩ => ⟨S32768x2880, .fp8e4m3⟩
  | .hbm, ⟨4, _⟩ => ⟨S32768, .f32⟩
  | .hbm, ⟨5, _⟩ => ⟨S1536x1, .i32⟩
  | .hbm, ⟨6, _⟩ => ⟨S1536x128, .f32⟩
  | .hbm, ⟨7, _⟩ => ⟨S32768x1, .f32⟩
  | .hbm, ⟨8, _⟩ => ⟨S1536x2880, .bf16⟩
  | .hbm, ⟨9, _⟩ => ⟨S32768x2880, .f32⟩
  | .hbm, ⟨10, _⟩ => ⟨S1536x32768, .fp8e5m2⟩
  | .local _ .vmem, ⟨0, _⟩ => ⟨S1536x32768, .f32⟩
  | .local _ .vmem, ⟨1, _⟩ => ⟨S1536x2880, .fp8e4m3⟩
  | .local _ .vmem, ⟨2, _⟩ => ⟨S1536x1, .f32⟩
  | .local _ .vmem, ⟨3, _⟩ => ⟨S32768x2880, .fp8e4m3⟩
  | .local _ .vmem, ⟨4, _⟩ => ⟨S32768x1, .f32⟩
  | .local _ .vmem, ⟨5, _⟩ => ⟨S1536x1, .i32⟩
  | .local _ .vmem, ⟨6, _⟩ => ⟨S1536x128, .f32⟩
  | .local _ .vmem, ⟨7, _⟩ => ⟨S1536x2880, .bf16⟩
  | .local _ .vmem, ⟨8, _⟩ => ⟨S32768x2880, .f32⟩
  | .local _ .vmem, ⟨9, _⟩ => ⟨S1536x32768, .fp8e5m2⟩
  | _, _ => ⟨S1536x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x2880 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x2880 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x2880 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x32768 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Forward.lean ====
abbrev S1536x2880 : Shape := ⟨2, ![1536, 2880]⟩
abbrev S1536x1 : Shape := ⟨2, ![1536, 1]⟩
abbrev S32768x2880 : Shape := ⟨2, ![32768, 2880]⟩
abbrev S32768 : Shape := ⟨1, ![32768]⟩
abbrev S6x256 : Shape := ⟨2, ![6, 256]⟩
abbrev S_ : Shape := ⟨0, ![]⟩
abbrev S1x32768 : Shape := ⟨2, ![1, 32768]⟩
abbrev S1536x32768 : Shape := ⟨2, ![1536, 32768]⟩
abbrev S1536x128 : Shape := ⟨2, ![1536, 128]⟩
abbrev S512x2880 : Shape := ⟨2, ![512, 2880]⟩
abbrev S1x512 : Shape := ⟨2, ![1, 512]⟩
abbrev S1536x512 : Shape := ⟨2, ![1536, 512]⟩
abbrev S256x2880 : Shape := ⟨2, ![256, 2880]⟩
abbrev S256x512 : Shape := ⟨2, ![256, 512]⟩
abbrev S256x1 : Shape := ⟨2, ![256, 1]⟩
abbrev S256x128 : Shape := ⟨2, ![256, 128]⟩
abbrev S1536 : Shape := ⟨1, ![1536]⟩

abbrev nBuf : Space → Nat
  | .hbm => 25
  | .vmem => 16
  | .smem => 0
  | _ => 0

abbrev bufTy : (tb : Table) → Fin (tcTables nBuf tb) → BufTy
  | .hbm, ⟨0, _⟩ => ⟨S1536x2880, .fp8e4m3⟩
  | .hbm, ⟨1, _⟩ => ⟨S1536x1, .f32⟩
  | .hbm, ⟨2, _⟩ => ⟨S32768x2880, .fp8e4m3⟩
  | .hbm, ⟨3, _⟩ => ⟨S32768, .f32⟩
  | .hbm, ⟨4, _⟩ => ⟨S6x256, .i32⟩
  | .hbm, ⟨5, _⟩ => ⟨S1536x1, .i32⟩
  | .hbm, ⟨6, _⟩ => ⟨S_, .i32⟩
  | .hbm, ⟨7, _⟩ => ⟨S1536x1, .i32⟩
  | .hbm, ⟨8, _⟩ => ⟨S1536x1, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1536x1, .i32⟩
  | .hbm, ⟨13, _⟩ => ⟨S1536x1, .i32⟩
  | .hbm, ⟨14, _⟩ => ⟨S_, .i32⟩
  | .hbm, ⟨15, _⟩ => ⟨S1536x1, .i32⟩
  | .hbm, ⟨16, _⟩ => ⟨S1536x1, .i32⟩
  | .hbm, ⟨17, _⟩ => ⟨S_, .i32⟩
  | .hbm, ⟨18, _⟩ => ⟨S_, .i32⟩
  | .hbm, ⟨19, _⟩ => ⟨S1536x1, .i32⟩
  | .hbm, ⟨20, _⟩ => ⟨S1536x1, .i32⟩
  | .hbm, ⟨21, _⟩ => ⟨S1x32768, .f32⟩
  | .hbm, ⟨22, _⟩ => ⟨S1536x32768, .f32⟩
  | .hbm, ⟨23, _⟩ => ⟨S1536x1, .f32⟩
  | .hbm, ⟨24, _⟩ => ⟨S1536x128, .f32⟩
  | .local _ .vmem, ⟨0, _⟩ => ⟨S1536x2880, .fp8e4m3⟩
  | .local _ .vmem, ⟨1, _⟩ => ⟨S1536x1, .f32⟩
  | .local _ .vmem, ⟨2, _⟩ => ⟨S512x2880, .fp8e4m3⟩
  | .local _ .vmem, ⟨3, _⟩ => ⟨S512x2880, .fp8e4m3⟩
  | .local _ .vmem, ⟨4, _⟩ => ⟨S1x512, .f32⟩
  | .local _ .vmem, ⟨5, _⟩ => ⟨S1x512, .f32⟩
  | .local _ .vmem, ⟨6, _⟩ => ⟨S1536x1, .i32⟩
  | .local _ .vmem, ⟨7, _⟩ => ⟨S1536x512, .f32⟩
  | .local _ .vmem, ⟨8, _⟩ => ⟨S1536x512, .f32⟩
  | .local _ .vmem, ⟨9, _⟩ => ⟨S1536x1, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | _, _ => ⟨S1536x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![64], ![false]⟩

def k0_cond4 (i : grid0.Coords) : BitVec 1 :=
  let arg0 : BitVec 32 := BitVec.ofNat 32 (i 0).val
  let c63_i32 : BitVec 32 := 63#32
  let v581 : BitVec 1 := Scalar.cmpi .eq arg0 c63_i32
  let v582 : BitVec 32 := Scalar.extui v581
  let c0_i32_233 : BitVec 32 := 0#32
  let v583 : BitVec 1 := Scalar.cmpi .ne v582 c0_i32_233
  v583

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2880 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefForwardIdeal.lean ====
abbrev S1536x2880 : Shape := ⟨2, ![1536, 2880]⟩
abbrev S1536x1 : Shape := ⟨2, ![1536, 1]⟩
abbrev S32768x2880 : Shape := ⟨2, ![32768, 2880]⟩
abbrev S32768 : Shape := ⟨1, ![32768]⟩
abbrev S6x256 : Shape := ⟨2, ![6, 256]⟩
abbrev S1x32768 : Shape := ⟨2, ![1, 32768]⟩
abbrev S1536x32768 : Shape := ⟨2, ![1536, 32768]⟩
abbrev S1536x128 : Shape := ⟨2, ![1536, 128]⟩
abbrev S1536 : Shape := ⟨1, ![1536]⟩
abbrev S1536x8x4096 : Shape := ⟨3, ![1536, 8, 4096]⟩
abbrev S1536x8 : Shape := ⟨2, ![1536, 8]⟩
abbrev S1536x7 : Shape := ⟨2, ![1536, 7]⟩
abbrev S1536x96 : Shape := ⟨2, ![1536, 96]⟩

abbrev nBuf : Space → Nat
  | .hbm => 10
  | .vmem => 8
  | .smem => 0
  | _ => 0

abbrev bufTy : (tb : Table) → Fin (tcTables nBuf tb) → BufTy
  | .hbm, ⟨0, _⟩ => ⟨S1536x2880, .fp8e4m3⟩
  | .hbm, ⟨1, _⟩ => ⟨S1536x1, .f32⟩
  | .hbm, ⟨2, _⟩ => ⟨S32768x2880, .fp8e4m3⟩
  | .hbm, ⟨3, _⟩ => ⟨S32768, .f32⟩
  | .hbm, ⟨4, _⟩ => ⟨S6x256, .i32⟩
  | .hbm, ⟨5, _⟩ => ⟨S1x32768, .f32⟩
  | .hbm, ⟨6, _⟩ => ⟨S1536x1, .i32⟩
  | .hbm, ⟨7, _⟩ => ⟨S1536x32768, .f32⟩
  | .hbm, ⟨8, _⟩ => ⟨S1536x1, .f32⟩
  | .hbm, ⟨9, _⟩ => ⟨S1536x128, .f32⟩
  | .local _ .vmem, ⟨0, _⟩ => ⟨S1536x2880, .fp8e4m3⟩
  | .local _ .vmem, ⟨1, _⟩ => ⟨S1536x1, .f32⟩
  | .local _ .vmem, ⟨2, _⟩ => ⟨S32768x2880, .fp8e4m3⟩
  | .local _ .vmem, ⟨3, _⟩ => ⟨S1x32768, .f32⟩
  | .local _ .vmem, ⟨4, _⟩ => ⟨S1536x1, .i32⟩
  | .local _ .vmem, ⟨5, _⟩ => ⟨S1536x32768, .f32⟩
  | .local _ .vmem, ⟨6, _⟩ => ⟨S1536x1, .f32⟩
  | .local _ .vmem, ⟨7, _⟩ => ⟨S1536x128, .f32⟩
  | _, _ => ⟨S1536x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quantise.lean ====
abbrev S6x256x2880 : Shape := ⟨3, ![6, 256, 2880]⟩
abbrev S1536x2880 : Shape := ⟨2, ![1536, 2880]⟩
abbrev S1536x1 : Shape := ⟨2, ![1536, 1]⟩
abbrev S256x2880 : Shape := ⟨2, ![256, 2880]⟩
abbrev S256x1 : Shape := ⟨2, ![256, 1]⟩
abbrev S256 : Shape := ⟨1, ![256]⟩

abbrev nBuf : Space → Nat
  | .hbm => 4
  | .vmem => 6
  | .smem => 0
  | _ => 0

abbrev bufTy : (tb : Table) → Fin (tcTables nBuf tb) → BufTy
  | .hbm, ⟨0, _⟩ => ⟨S6x256x2880, .bf16⟩
  | .hbm, ⟨1, _⟩ => ⟨S1536x2880, .bf16⟩
  | .hbm, ⟨2, _⟩ => ⟨S1536x2880, .fp8e4m3⟩
  | .hbm, ⟨3, _⟩ => ⟨S1536x1, .f32⟩
  | .local _ .vmem, ⟨0, _⟩ => ⟨S256x2880, .bf16⟩
  | .local _ .vmem, ⟨1, _⟩ => ⟨S256x2880, .bf16⟩
  | .local _ .vmem, ⟨2, _⟩ => ⟨S256x2880, .fp8e4m3⟩
  | .local _ .vmem, ⟨3, _⟩ => ⟨S256x2880, .fp8e4m3⟩
  | .local _ .vmem, ⟨4, _⟩ => ⟨S256x1, .f32⟩
  | .local _ .vmem, ⟨5, _⟩ => ⟨S256x1, .f32⟩
  | _, _ => ⟨S6x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2880 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2880 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefQuantiseIdeal.lean ====
abbrev S6x256x2880 : Shape := ⟨3, ![6, 256, 2880]⟩
abbrev S_ : Shape := ⟨0, ![]⟩
abbrev S6x256 : Shape := ⟨2, ![6, 256]⟩
abbrev S6x256x1 : Shape := ⟨3, ![6, 256, 1]⟩
abbrev S1536x2880 : Shape := ⟨2, ![1536, 2880]⟩
abbrev S1536x1 : Shape := ⟨2, ![1536, 1]⟩

abbrev nBuf : Space → Nat
  | .hbm => 45
  | .vmem => 0
  | .smem => 0
  | _ => 0

abbrev bufTy : (tb : Table) → Fin (tcTables nBuf tb) → BufTy
  | .hbm, ⟨0, _⟩ => ⟨S6x256x2880, .bf16⟩
  | .hbm, ⟨1, _⟩ => ⟨S6x256x2880, .f32⟩
  | .hbm, ⟨2, _⟩ => ⟨S6x256x2880, .f32⟩
  | .hbm, ⟨3, _⟩ => ⟨S_, .f32⟩
  | .hbm, ⟨4, _⟩ => ⟨S6x256, .f32⟩
  | .hbm, ⟨5, _⟩ => ⟨S_, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S_, .f32⟩
  | .hbm, ⟨10, _⟩ => ⟨S_, .f32⟩
  | .hbm, ⟨11, _⟩ => ⟨S6x256, .f32⟩
  | .hbm, ⟨12, _⟩ => ⟨S6x256, .f32⟩
  | .hbm, ⟨13, _⟩ => ⟨S6x256, .f32⟩
  | .hbm, ⟨14, _⟩ => ⟨S_, .f32⟩
  | .hbm, ⟨15, _⟩ => ⟨S6x256, .f32⟩
  | .hbm, ⟨16, _⟩ => ⟨S6x256, .f32⟩
  | .hbm, ⟨17, _⟩ => ⟨S_, .f32⟩
  | .hbm, ⟨18, _⟩ => ⟨S6x256, .f32⟩
  | .hbm, ⟨19, _⟩ => ⟨S6x256, .i1⟩
  | .hbm, ⟨20, _⟩ => ⟨S_, .f32⟩
  | .hbm, ⟨21, _⟩ => ⟨S_, .f32⟩
  | .hbm, ⟨22, _⟩ => ⟨S6x256, .f32⟩
  | .hbm, ⟨23, _⟩ => ⟨S6x256, .f32⟩
  | .hbm, ⟨24, _⟩ => ⟨S_, .f32⟩
  | .hbm, ⟨25, _⟩ => ⟨S6x256, .f32⟩
  | .hbm, ⟨26, _⟩ => ⟨S6x256, .f32⟩
  | .hbm, ⟨27, _⟩ => ⟨S6x256, .f32⟩
  | .hbm, ⟨28, _⟩ => ⟨S_, .f32⟩
  | .hbm, ⟨29, _⟩ => ⟨S6x256, .f32⟩
  | .hbm, ⟨30, _⟩ => ⟨S6x256, .f32⟩
  | .hbm, ⟨31, _⟩ => ⟨S6x256x1, .f32⟩
  | .hbm, ⟨32, _⟩ => ⟨S6x256x2880, .f32⟩
  | .hbm, ⟨33, _⟩ => ⟨S6x256x2880, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S6x256x2880, .f32⟩
  | .hbm, ⟨38, _⟩ => ⟨S6x256x2880, .f32⟩
  | .hbm, ⟨39, _⟩ => ⟨S_, .f32⟩
  | .hbm, ⟨40, _⟩ => ⟨S6x256x2880, .f32⟩
  | .hbm, ⟨41, _⟩ => ⟨S6x256x2880, .f32⟩
  | .hbm, ⟨42, _⟩ => ⟨S6x256x2880, .fp8e4m3⟩
  | .hbm, ⟨43, _⟩ => ⟨S1536x2880, .fp8e4m3⟩
  | .hbm, ⟨44, _⟩ => ⟨S1536x1, .f32⟩
  | _, _ => ⟨S6x256x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.BackwardPay.lean ====
/- The backward kernel's payloads at an index, over the extended reals (hand-written, untrusted). -/
module

public import proofs.«01_k».proof.Proof.Gen.BackwardIdeal.Value
public import Idealize.ShloMosaic.Lib.Pointwise

@[expose] public section

set_option maxRecDepth 16384

noncomputable section

open scoped BigOperators

namespace Cert.BackwardIdeal.Hand

open Cert.BackwardIdeal Cert.BackwardIdeal.Gen Idealize.ShloMosaic Idealize.ShloMosaic.TcCoe Idealize.SL.Sem

/-- One quantised gradient: the clipped difference of the scaled exponential and the scaled label term. -/
def code (x mx inv mult hit : EReal) : EReal :=
  min (Ideal.ofBits .f32 0x47600000#32)
    (max (Ideal.ofBits .f32 0xC7600000#32) (Ideal.exp (x - mx) * mult - hit * inv))

/-- One where the two words are equal, zero elsewhere. -/
def hot (a b : BitVec 32) : EReal := if a = b then 1 else 0

theorem select_eq (a b : BitVec 32) (x y : EReal) :
    Scalar.select (IntOp.cmpi .eq a b) x y = if a = b then x else y := by
  by_cases h : a = b
  · subst h; simp [IntOp.cmpi, Scalar.select]
  · have hb : (a == b) = false := by simpa using h
    simp [IntOp.cmpi, Scalar.select, h, hb]

theorem select_hot (a b : BitVec 32) (inv : EReal) :
    Scalar.select (IntOp.cmpi .eq a b) inv (0 : EReal) = hot a b * inv := by
  rw [select_eq]; unfold hot; split <;> simp

/-- A sum over the lanes that keeps one lane is that lane. -/
theorem sum_lane (n : ℕ) (l : Fin n) (hn : n < 2 ^ 32) (w : BitVec 32) (hw : w = BitVec.ofNat 32 l.val)
    (f : Fin n → EReal) :
    (∑ k : Fin n, Scalar.select (IntOp.cmpi .eq (BitVec.ofNat 32 k.val) w) (f k) (0 : EReal)) = f l := by
  subst hw
  rw [Finset.sum_eq_single l]
  · rw [select_eq, if_pos rfl]
  · intro k _ hk
    rw [select_eq, if_neg]
    intro h
    have h2 := congrArg BitVec.toNat h
    simp only [BitVec.toNat_ofNat] at h2
    rw [Nat.mod_eq_of_lt (by have := k.isLt; omega), Nat.mod_eq_of_lt (by have := l.isLt; omega)] at h2
    exact hk (Fin.ext h2)
  · intro h; exact absurd (Finset.mem_univ _) h

/-- The group word of a grid point, as the body computes it. -/
def gw (n : ℕ) : BitVec 32 :=
  let arg0 : BitVec 32 := BitVec.ofNat 32 n
  let v0 : BitVec 32 := Scalar.divsi arg0 16#32
  let v5 : BitVec 32 := Scalar.subi (Scalar.extui (Scalar.cmpi .sgt arg0 0#32)) (Scalar.extui (Scalar.cmpi .slt arg0 0#32))
  let v10 : BitVec 32 := Scalar.subi (Scalar.extui (Scalar.cmpi .sgt 16#32 0#32)) (Scalar.extui (Scalar.cmpi .slt 16#32 0#32))
  let v14 : BitVec 1 := Scalar.andi (Scalar.cmpi .ne v5 v10) (Scalar.cmpi .ne (Scalar.remsi arg0 16#32) 0#32)
  Scalar.select v14 (Scalar.subi v0 1#32) v0

theorem gw_eq : ∀ n : Fin 128, gw n.val = BitVec.ofNat 32 (n.val / 16) := by decide +kernel

/-- The lane iota and the column iota of the body. -/
abbrev lanes : IVec S256x128 32 := iota .tc S256x128 32 [1] iota_S256x128_d1_w32
abbrev cols : IVec S256x256 32 := iota .tc S256x256 32 [1] iota_S256x256_d1_w32

/-- The codes of one chunk of rows, and their dequantised values. -/
def chunkCodes (n : ℕ) (i : grid0.Coords) (st : Vec Ideal S256x128 .f32) (lg : Vec Ideal S256x256 .f32)
    (lab : Vec Ideal S256x1 .i32) : FVec Ideal S256x256 .fp8e5m2 :=
  k0_pay7 (F := Ideal) (BitVec.ofNat 32 n) cols st (k0_pay4 st) (k0_pay5 i st) (k0_pay6 i)
    (Scalar.ofBits .f32 0x00000000#32) lg lab

def chunkGq (n : ℕ) (i : grid0.Coords) (st : Vec Ideal S256x128 .f32) (lg : Vec Ideal S256x256 .f32)
    (lab : Vec Ideal S256x1 .i32) : FVec Ideal S256x256 .bf16 :=
  k0_pay8 (F := Ideal) (BitVec.ofNat 32 n) (gw n) lanes cols st (k0_pay4 st) (k0_pay5 i st) (k0_pay6 i)
    (Scalar.ofBits .f32 0x00000000#32) lg lab

theorem lane_word (b n : ℕ) (hn : n < 128) : Scalar.addi (BitVec.ofNat 32 b) (gw n) = BitVec.ofNat 32 (b + n / 16) := by
  have h := gw_eq ⟨n, hn⟩
  simp only at h
  rw [h]
  simp [Scalar.addi, IntOp.addi, BitVec.ofNat_add]

/-- Lane `b + n / 16` of the statistics, for a grid point `n`. -/
abbrev lane (b n : ℕ) (hb : b ≤ 24) (hn : n < 128) : Fin 128 := ⟨b + n / 16, by omega⟩

theorem pay4_apply (st : Vec Ideal S256x128 .f32) (r : Fin 256) : k0_pay4 (F := Ideal) st (ix2 r 0) = st (ix2 r 0) := by
  pointwise [k0_pay4]
  exact sum_lane 128 0 (by norm_num) _ rfl (fun x => st (ix2 r x))

theorem pay5_apply (i : grid0.Coords) (n : ℕ) (hn : n < 128) (hi : (i 0).val = n) (st : Vec Ideal S256x128 .f32) (r : Fin 256) :
    k0_pay5 (F := Ideal) i st (ix2 r 0) = st (ix2 r (lane 8 n (by omega) hn)) := by
  have e : ∀ w, (8#32 + gw (i 0).val) = w → k0_pay5 (F := Ideal) i st = shapeCast S256x1 (multiReduction .add [1] S256
      (select (cmpi .eq lanes (broadcast S256x128 w)) st
        (broadcast S256x128 (Scalar.ofBits .f32 0x00000000#32))) 0x00000000#32 reduces_S256x128_S256 (.inl rfl) rfl) shapeCasts_S256_S256x1 := by
    intro w hw; subst hw; rfl
  rw [e _ rfl]
  pointwise
  exact sum_lane 128 (lane 8 n (by omega) hn) (by norm_num) _ (by rw [hi]; exact lane_word 8 n hn) (fun x => st (ix2 r x))

theorem pay6_eq (i : grid0.Coords) :
    k0_pay6 i = cmpi .eq lanes (broadcast S256x128 (Scalar.addi 16#32 (gw (i 0).val))) := rfl

theorem word_hot (n : ℕ) (k : Fin 256) (w : BitVec 32) :
    hot (BitVec.ofNat 32 k.val) (IntOp.subi w (Scalar.muli (BitVec.ofNat 32 n) 256#32)) = hot (BitVec.ofNat 32 (256 * n + k.val)) w := by
  have : (BitVec.ofNat 32 k.val = IntOp.subi w (Scalar.muli (BitVec.ofNat 32 n) 256#32)) ↔ (BitVec.ofNat 32 (256 * n + k.val) = w) := by
    have e : BitVec.ofNat 32 (256 * n + k.val) = BitVec.ofNat 32 k.val + BitVec.ofNat 32 n * 256#32 := by
      rw [show 256 * n + k.val = k.val + n * 256 by ring, BitVec.ofNat_add, BitVec.ofNat_mul]
    rw [e]
    show BitVec.ofNat 32 k.val = w - BitVec.ofNat 32 n * 256#32 ↔ _
    exact BitVec.eq_sub_iff_add_eq
  unfold hot
  simp only [this]

/-- THE CODES OF A CHUNK at an index. -/
theorem chunkCodes_apply (n : ℕ) (hn : n < 128) (i : grid0.Coords) (hi : (i 0).val = n) (st : Vec Ideal S256x128 .f32)
    (lg : Vec Ideal S256x256 .f32) (lab : Vec Ideal S256x1 .i32) (r k : Fin 256) :
    chunkCodes n i st lg lab (ix2 r k)
      = code (lg (ix2 r k)) (st (ix2 r 0)) (st (ix2 r (lane 8 n (by omega) hn))) (st (ix2 r (lane 16 n (by omega) hn)))
          (hot (BitVec.ofNat 32 (256 * n + k.val)) (lab (ix2 r 0))) := by
  unfold chunkCodes code
  pointwise [k0_pay7]
  rw [pay4_apply, pay5_apply i n hn hi, pay6_eq, select_hot, word_hot]
  pointwise
  rw [sum_lane 128 (lane 16 n (by omega) hn) (by norm_num) _ (by rw [hi]; exact lane_word 16 n hn) (fun x => st (ix2 r x))]

/-- Their dequantised values: each code times its group's scale. -/
theorem chunkGq_apply (n : ℕ) (hn : n < 128) (i : grid0.Coords) (st : Vec Ideal S256x128 .f32)
    (lg : Vec Ideal S256x256 .f32) (lab : Vec Ideal S256x1 .i32) (r k : Fin 256) :
    chunkGq n i st lg lab (ix2 r k)
      = chunkCodes n i st lg lab (ix2 r k) * st (ix2 r (lane 24 n (by omega) hn)) := by
  unfold chunkGq chunkCodes
  pointwise [k0_pay8]
  rw [sum_lane 128 (lane 24 n (by omega) hn) (by norm_num) _ (lane_word 24 n hn) (fun x => st (ix2 r x))]

end Cert.BackwardIdeal.Hand

end
-- ==== Proof.BackwardBlock.lean ====
/- What one grid point of the backward kernel leaves in its buffers, as functions of its input blocks, over the extended reals (hand-written, untrusted). -/
module

public import proofs.«01_k».proof.Proof.BackwardPay
public import Idealize.ShloMosaic.Lib.Pipeline.ReadBack
public import Idealize.ShloMosaic.Lib.Tactic

@[expose] public section

set_option maxRecDepth 16384

noncomputable section

open scoped BigOperators

namespace Cert.BackwardIdeal.Hand

open Cert.BackwardIdeal Cert.BackwardIdeal.Gen Idealize.ShloMosaic Idealize.ShloMosaic.TcCoe Idealize.SL.Sem

/-- The codes of a block of columns, from the block's logits, the labels and the statistics. -/
def codesOf (n : ℕ) (hn : n < 128) (x0 : Vec Ideal S1536x256 .f32) (x5 : Vec Ideal S1536x1 .i32) (x6 : Vec Ideal S1536x128 .f32) :
    Vec Ideal S1536x256 .fp8e5m2 := fun j =>
  code (x0 j) (x6 (ix2 (j 0) 0)) (x6 (ix2 (j 0) (lane 8 n (by omega) hn))) (x6 (ix2 (j 0) (lane 16 n (by omega) hn)))
    (hot (BitVec.ofNat 32 (256 * n + (j 1).val)) (x5 (ix2 (j 0) 0)))

/-- The block's dequantised gradient. -/
def gqOf (n : ℕ) (hn : n < 128) (x0 : Vec Ideal S1536x256 .f32) (x5 : Vec Ideal S1536x1 .i32) (x6 : Vec Ideal S1536x128 .f32) :
    Vec Ideal S1536x256 .bf16 := fun j =>
  codesOf n hn x0 x5 x6 j * x6 (ix2 (j 0) (lane 24 n (by omega) hn))

/-- Six stores of 256 rows each, last first. -/
abbrev six {e : EltTy} (w : (o : ℕ) → (∀ a, ![o, 0] a + S256x256.size a ≤ S1536x256.size a) → (S256x256.Idx → Elt Ideal e)) :
    List (View.Piece (Elt Ideal) S1536x256 e) :=
  [⟨Rect.unit (s := S1536x256) ![1280, 0] S256x256.size inb_S1536x256_S256x256_1280_0, w 1280 inb_S1536x256_S256x256_1280_0⟩,
   ⟨Rect.unit (s := S1536x256) ![1024, 0] S256x256.size inb_S1536x256_S256x256_1024_0, w 1024 inb_S1536x256_S256x256_1024_0⟩,
   ⟨Rect.unit (s := S1536x256) ![768, 0] S256x256.size inb_S1536x256_S256x256_768_0, w 768 inb_S1536x256_S256x256_768_0⟩,
   ⟨Rect.unit (s := S1536x256) ![512, 0] S256x256.size inb_S1536x256_S256x256_512_0, w 512 inb_S1536x256_S256x256_512_0⟩,
   ⟨Rect.unit (s := S1536x256) ![256, 0] S256x256.size inb_S1536x256_S256x256_256_0, w 256 inb_S1536x256_S256x256_256_0⟩,
   ⟨Rect.unit (s := S1536x256) ![0, 0] S256x256.size inb_S1536x256_S256x256_0_0, w 0 inb_S1536x256_S256x256_0_0⟩]

/-- Six stores whose payloads are the six row blocks of `G` leave `G`. -/
theorem canon_six {e : EltTy} (w : (o : ℕ) → (∀ a, ![o, 0] a + S256x256.size a ≤ S1536x256.size a) → (S256x256.Idx → Elt Ideal e))
    (G : S1536x256.Idx → Elt Ideal e)
    (h : ∀ o hb (r k : Fin 256) (hr : o + r.val < 1536), w o hb (ix2 r k) = G (ix2 ⟨o + r.val, hr⟩ k)) :
    View.canon (six w) = G := by
  have key : ∀ (o : ℕ) (hb : ∀ a, ![o, 0] a + S256x256.size a ≤ S1536x256.size a) (x : S256x256.Idx),
      w o hb x = G ((Rect.unit (s := S1536x256) ![o, 0] S256x256.size hb).emb x) := by
    intro o hb x
    have h0 : o + 256 ≤ 1536 := hb 0
    obtain ⟨r, k, rfl⟩ : ∃ (r : Fin 256) (k : Fin 256), x = ix2 r k := ⟨x 0, x 1, eq_ix2 x⟩
    have hr := r.isLt
    rw [h o hb r k (by omega)]
    congr 1
    funext a; apply Fin.ext
    match a with
    | ⟨0, _⟩ => show o + r.val = o + 1 * r.val; omega
    | ⟨1, _⟩ => show k.val = 0 + 1 * k.val; omega
  funext y
  refine View.canon_apply_of_pieces G _ (View.PiecesOf.mem (show View.PiecesOf G (six w) from ⟨key _ _, key _ _, key _ _, key _ _, key _ _, key _ _, trivial⟩)) y ?_
  have hy0 : (y 0).val < 1536 := (y 0).isLt
  have hy1 : (y 1).val < 256 := (y 1).isLt
  have mem : ∀ (o : ℕ) (hb : ∀ a, ![o, 0] a + S256x256.size a ≤ S1536x256.size a), o ≤ (y 0).val → (y 0).val < o + 256 →
      y ∈ (Rect.unit (s := S1536x256) ![o, 0] S256x256.size hb).set := by
    intro o hb h1 h2
    rw [Rect.mem_set_unit]
    intro a
    match a with
    | ⟨0, _⟩ => exact ⟨h1, h2⟩
    | ⟨1, _⟩ => exact ⟨Nat.zero_le _, by show (y 1).val < 0 + 256; omega⟩
  rcases Nat.lt_or_ge (y 0).val 256 with c0 | c0
  · exact ⟨_, .tail _ (.tail _ (.tail _ (.tail _ (.tail _ (.head _))))), mem 0 inb_S1536x256_S256x256_0_0 (by omega) (by omega)⟩
  rcases Nat.lt_or_ge (y 0).val 512 with c1 | c1
  · exact ⟨_, .tail _ (.tail _ (.tail _ (.tail _ (.head _)))), mem 256 inb_S1536x256_S256x256_256_0 (by omega) (by omega)⟩
  rcases Nat.lt_or_ge (y 0).val 768 with c2 | c2
  · exact ⟨_, .tail _ (.tail _ (.tail _ (.head _))), mem 512 inb_S1536x256_S256x256_512_0 (by omega) (by omega)⟩
  rcases Nat.lt_or_ge (y 0).val 1024 with c3 | c3
  · exact ⟨_, .tail _ (.tail _ (.head _)), mem 768 inb_S1536x256_S256x256_768_0 (by omega) (by omega)⟩
  rcases Nat.lt_or_ge (y 0).val 1280 with c4 | c4
  · exact ⟨_, .tail _ (.head _), mem 1024 inb_S1536x256_S256x256_1024_0 (by omega) (by omega)⟩
  · exact ⟨_, .head _, mem 1280 inb_S1536x256_S256x256_1280_0 (by omega) (by omega)⟩

/-- Rows `o` to `o + 255` of the statistics, of the logits' block and of the labels fit. -/
theorem fit {n : ℕ} (k : ℕ) (hk : k ≤ n) (o : ℕ) (h : ∀ a, ![o, 0] a + S256x256.size a ≤ S1536x256.size a) :
    ∀ a, ![o, 0] a + (⟨2, ![256, k]⟩ : Shape).size a ≤ (⟨2, ![1536, n]⟩ : Shape).size a := fun a =>
  match a with
  | ⟨0, _⟩ => h 0
  | ⟨1, _⟩ => by show 0 + k ≤ n; omega

/-- The rows of a block of height 1536 from row `o`. -/
abbrev rowsAt {n : ℕ} {e : EltTy} (X : Vec Ideal ⟨2, ![1536, n]⟩ e) (o : ℕ)
    (h : ∀ a, ![o, 0] a + S256x256.size a ≤ S1536x256.size a) : Vec Ideal ⟨2, ![256, n]⟩ e :=
  View.ld X (Rect.unit (s := ⟨2, ![1536, n]⟩) ![o, 0] (⟨2, ![256, n]⟩ : Shape).size (fit n le_rfl o h))

theorem rowsAt_apply {n : ℕ} {e : EltTy} (X : Vec Ideal ⟨2, ![1536, n]⟩ e) (o : ℕ)
    (h : ∀ a, ![o, 0] a + S256x256.size a ≤ S1536x256.size a) (r : Fin 256) (k : Fin n) (hr : o + r.val < 1536) :
    rowsAt X o h (ix2 r k) = X (ix2 ⟨o + r.val, hr⟩ k) := by
  show X _ = X _
  congr 1
  funext a; apply Fin.ext
  match a with
  | ⟨0, _⟩ => show o + 1 * r.val = o + r.val; omega
  | ⟨1, _⟩ => show 0 + 1 * k.val = k.val; omega

abbrev codePieces (n : ℕ) (i : grid0.Coords) (x0 : Vec Ideal S1536x256 .f32) (x5 : Vec Ideal S1536x1 .i32) (x6 : Vec Ideal S1536x128 .f32) :
    List (View.Piece (Elt Ideal) S1536x256 .fp8e5m2) :=
  six (e := .fp8e5m2) fun o h => chunkCodes n i (rowsAt x6 o h) (rowsAt x0 o h) (rowsAt x5 o h)

abbrev gqPieces (n : ℕ) (i : grid0.Coords) (x0 : Vec Ideal S1536x256 .f32) (x5 : Vec Ideal S1536x1 .i32) (x6 : Vec Ideal S1536x128 .f32) :
    List (View.Piece (Elt Ideal) S1536x256 .bf16) :=
  six (e := .bf16) fun o h => chunkGq n i (rowsAt x6 o h) (rowsAt x0 o h) (rowsAt x5 o h)

theorem canon_codePieces (n : ℕ) (hn : n < 128) (i : grid0.Coords) (hi : (i 0).val = n) (x0 : Vec Ideal S1536x256 .f32)
    (x5 : Vec Ideal S1536x1 .i32) (x6 : Vec Ideal S1536x128 .f32) :
    View.canon (codePieces n i x0 x5 x6) = codesOf n hn x0 x5 x6 :=
  canon_six _ _ fun o hb r k hr => by
    show chunkCodes _ _ _ _ _ _ = _
    rw [chunkCodes_apply n hn i hi]
    rw [rowsAt_apply _ _ _ _ _ hr, rowsAt_apply _ _ _ _ _ hr, rowsAt_apply _ _ _ _ _ hr, rowsAt_apply _ _ _ _ _ hr, rowsAt_apply _ _ _ _ _ hr]
    rfl

theorem canon_gqPieces (n : ℕ) (hn : n < 128) (i : grid0.Coords) (hi : (i 0).val = n) (x0 : Vec Ideal S1536x256 .f32)
    (x5 : Vec Ideal S1536x1 .i32) (x6 : Vec Ideal S1536x128 .f32) :
    View.canon (gqPieces n i x0 x5 x6) = gqOf n hn x0 x5 x6 :=
  canon_six _ _ fun o hb r k hr => by
    show chunkGq _ _ _ _ _ _ = _
    rw [chunkGq_apply n hn i, chunkCodes_apply n hn i hi]
    rw [rowsAt_apply _ _ _ _ _ hr, rowsAt_apply _ _ _ _ _ hr, rowsAt_apply _ _ _ _ _ hr, rowsAt_apply _ _ _ _ _ hr, rowsAt_apply _ _ _ _ _ hr, rowsAt_apply _ _ _ _ _ hr]
    rfl

end Cert.BackwardIdeal.Hand

end
-- ==== Proof.BackwardPoint.lean ====
/- What each case of a grid point of the backward kernel leaves in its outputs and in its accumulator (hand-written, untrusted). -/
module

public import proofs.«01_k».proof.Proof.BackwardBlock

@[expose] public section

set_option maxRecDepth 16384

noncomputable section

open scoped BigOperators

namespace Cert.BackwardIdeal.Hand

open Cert.BackwardIdeal Cert.BackwardIdeal.Gen Idealize.ShloMosaic Idealize.ShloMosaic.TcCoe Idealize.SL.Sem

theorem z2 : (![0, 0] : Fin 2 → ℕ) = fun _ => 0 := by
  funext a; fin_cases a <;> rfl

/-- The dequantised gradient, stored in six pieces and read back whole. -/
theorem readCov_gq (n : ℕ) (hn : n < 128) (i : grid0.Coords) (hi : (i 0).val = n) (x0 : Vec Ideal S1536x256 .f32)
    (x5 : Vec Ideal S1536x1 .i32) (x6 : Vec Ideal S1536x128 .f32) :
    (View.whole cc0_scratch1).readCov (gqPieces n i x0 x5 x6) (Rect.unit ![0, 0] ![1536, 256] inb_S1536x256_S1536x256_0_0).toLoadRect
      = gqOf n hn x0 x5 x6 := by
  rw [View.readCov_eq_canon', canon_gqPieces n hn i hi]
  exact View.ld_unit_zero z2 inb_S1536x256_S1536x256_0_0 (gqOf n hn x0 x5 x6)

/-- The accumulator after a point, from its value before. -/
abbrev accStep (n : ℕ) (hn : n < 128) (x0 : Vec Ideal S1536x256 .f32) (x3 : Vec Ideal S256x2880 .fp8e4m3) (x4 : Vec Ideal S256x1 .f32)
    (x5 : Vec Ideal S1536x1 .i32) (x6 : Vec Ideal S1536x128 .f32) (acc : Vec Ideal S1536x2880 .f32) : Vec Ideal S1536x2880 .f32 :=
  k0_pay1 (k0_pay40 acc (gqOf n hn x0 x5 x6) (k0_pay38 x3 x4))

theorem coord_lt (i : grid0.Coords) : (i 0).val < 128 := (i 0).isLt

theorem out0_A_9_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6
      = codesOf (grid0.coords t 0).val (coord_lt _) x0 x5 x6 := by
  unfold out0_A_9
  rw [View.read_writes_eq_canon _ _ _ (cover0_A_9 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  exact canon_codePieces _ (coord_lt _) _ rfl x0 x5 x6

theorem out0_A_8_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6
      = k0_pay39 x1 x2 (gqOf (grid0.coords t 0).val (coord_lt _) x0 x5 x6) := by
  unfold out0_A_8
  rw [View.read_writes_eq_canon _ _ _ (cover0_A_8 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero z2]
  simp only [View.ld_unit_zero (S := S1536x2880) z2, View.ld_unit_zero (S := S1536x1) z2, View.ld_unit_zero (S := S256x2880) z2, View.ld_unit_zero (S := S256x1) z2]
  exact congrArg (k0_pay39 x1 x2) (readCov_gq _ (coord_lt _) _ rfl x0 x5 x6)

theorem sout0_A_0_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6
      = accStep (grid0.coords t 0).val (coord_lt _) x0 x3 x4 x5 x6 (k0_pay3 (F := Ideal)) := by
  unfold sout0_A_0
  rw [View.read_writes_eq_canon _ _ _ (scover0_A_0 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  first | rw [View.canon_unit_zero z2] | rw [View.canon_cons_unit_zero z2]
  simp only [View.ld_unit_zero (S := S1536x2880) z2, View.ld_unit_zero (S := S1536x1) z2, View.ld_unit_zero (S := S256x2880) z2, View.ld_unit_zero (S := S256x1) z2, View.readCov_unit_zero (S := S1536x2880) _ z2, View.readCov_unit_zero (S := S256x2880) _ z2]
  refine congrArg k0_pay1 (congrArg (fun g => k0_pay40 _ g _) (readCov_gq _ (coord_lt _) _ rfl x0 x5 x6))

theorem out0_B_9_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = codesOf (grid0.coords t 0).val (coord_lt _) x0 x5 x6 := by
  unfold out0_B_9
  rw [View.read_writes_eq_canon _ _ _ (cover0_B_9 c _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  exact canon_codePieces _ (coord_lt _) _ rfl x0 x5 x6

theorem out0_B_8_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = k0_pay39 x1 x2 (gqOf (grid0.coords t 0).val (coord_lt _) x0 x5 x6) := by
  unfold out0_B_8
  rw [View.read_writes_eq_canon _ _ _ (cover0_B_8 c _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero z2]
  simp only [View.ld_unit_zero (S := S1536x2880) z2, View.ld_unit_zero (S := S1536x1) z2, View.ld_unit_zero (S := S256x2880) z2, View.ld_unit_zero (S := S256x1) z2]
  exact congrArg (k0_pay39 x1 x2) (readCov_gq _ (coord_lt _) _ rfl x0 x5 x6)

theorem sout0_B_0_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = accStep (grid0.coords t 0).val (coord_lt _) x0 x3 x4 x5 x6 xs := by
  unfold sout0_B_0
  rw [View.read_writes_eq_canon _ _ _ (scover0_B_0 c _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  first | rw [View.canon_unit_zero z2] | rw [View.canon_cons_unit_zero z2]
  simp only [View.ld_unit_zero (S := S1536x2880) z2, View.ld_unit_zero (S := S1536x1) z2, View.ld_unit_zero (S := S256x2880) z2, View.ld_unit_zero (S := S256x1) z2, View.readCov_unit_zero (S := S1536x2880) _ z2, View.readCov_unit_zero (S := S256x2880) _ z2]
  refine congrArg k0_pay1 (congrArg (fun g => k0_pay40 _ g _) (readCov_gq _ (coord_lt _) _ rfl x0 x5 x6))

theorem out0_C_9_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = codesOf (grid0.coords t 0).val (coord_lt _) x0 x5 x6 := by
  unfold out0_C_9
  rw [View.read_writes_eq_canon _ _ _ (cover0_C_9 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  exact canon_codePieces _ (coord_lt _) _ rfl x0 x5 x6

theorem out0_C_8_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = k0_pay39 x1 x2 (gqOf (grid0.coords t 0).val (coord_lt _) x0 x5 x6) := by
  unfold out0_C_8
  rw [View.read_writes_eq_canon _ _ _ (cover0_C_8 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero z2]
  simp only [View.ld_unit_zero (S := S1536x2880) z2, View.ld_unit_zero (S := S1536x1) z2, View.ld_unit_zero (S := S256x2880) z2, View.ld_unit_zero (S := S256x1) z2]
  exact congrArg (k0_pay39 x1 x2) (readCov_gq _ (coord_lt _) _ rfl x0 x5 x6)

theorem sout0_C_0_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = accStep (grid0.coords t 0).val (coord_lt _) x0 x3 x4 x5 x6 xs := by
  unfold sout0_C_0
  rw [View.read_writes_eq_canon _ _ _ (scover0_C_0 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  first | rw [View.canon_unit_zero z2] | rw [View.canon_cons_unit_zero z2]
  simp only [View.ld_unit_zero (S := S1536x2880) z2, View.ld_unit_zero (S := S1536x1) z2, View.ld_unit_zero (S := S256x2880) z2, View.ld_unit_zero (S := S256x1) z2, View.readCov_unit_zero (S := S1536x2880) _ z2, View.readCov_unit_zero (S := S256x2880) _ z2]
  refine congrArg k0_pay1 (congrArg (fun g => k0_pay40 _ g _) (readCov_gq _ (coord_lt _) _ rfl x0 x5 x6))

theorem out0_C_7_eq (c : Dev nD) (t : Fin cfg0.N) (hc0) (hc1) (x0 : Vec Ideal S1536x256 .f32) (x1 : Vec Ideal S1536x2880 .fp8e4m3) (x2 : Vec Ideal S1536x1 .f32) (x3 : Vec Ideal S256x2880 .fp8e4m3) (x4 : Vec Ideal S256x1 .f32) (x5 : Vec Ideal S1536x1 .i32) (x6 : Vec Ideal S1536x128 .f32) (xs : Vec Ideal S1536x2880 .f32) :
    out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 x0 x1 x2 x3 x4 x5 x6 xs
      = k0_pay2 (accStep (grid0.coords t 0).val (coord_lt _) x0 x3 x4 x5 x6 xs) := by
  unfold out0_C_7
  rw [View.read_writes_eq_canon _ _ _ (cover0_C_7 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  rw [View.canon_unit_zero z2]
  simp only [View.ld_unit_zero (S := S1536x2880) z2, View.ld_unit_zero (S := S1536x1) z2, View.ld_unit_zero (S := S256x2880) z2, View.ld_unit_zero (S := S256x1) z2, View.readCov_unit_zero (S := S1536x2880) _ z2, View.readCov_unit_zero (S := S256x2880) _ z2]
  exact congrArg (fun g => k0_pay2 (k0_pay1 (k0_pay40 _ g _))) (readCov_gq _ (coord_lt _) _ rfl x0 x5 x6)

end Cert.BackwardIdeal.Hand

end
-- ==== Proof.BackwardArrays.lean ====
/- The blocks a grid point of the backward kernel reads, at an index of the arrays (hand-written, untrusted). -/
module

public import proofs.«01_k».proof.Proof.BackwardPoint
public import Idealize.ShloMosaic.Lib.Claim
public import Idealize.ShloMosaic.Lib.Pipeline.ValueKit

@[expose] public section

set_option maxRecDepth 16384

noncomputable section

open scoped BigOperators

namespace Cert.BackwardIdeal.Hand

open Cert.BackwardIdeal Cert.BackwardIdeal.Gen Idealize.ShloMosaic Idealize.ShloMosaic.TcCoe Idealize.SL.Sem

variable (m : (ℓ : Loc nD τ sig) → Buf (Elt Ideal) ℓ)

theorem coords_val : ∀ t : Fin grid0.N, ((grid0.coords t) 0).val = t.val := by decide +kernel

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![0, 0] := by decide +kernel

variable (c : Dev nD) (t : Fin cfg0.N)

theorem t_lt : t.val < 128 := lt_of_lt_of_eq t.isLt N_0

theorem blk0 (r : Fin 1536) (k : Fin 256) (h : 256 * t.val + k.val < 32768) :
    iblk m c 0 t (ix2 r k) = m ((c : Thread nD τ).loc main_arg0) (ix2 r ⟨256 * t.val + k.val, h⟩) := by
  blk_ext [iblk, V, idx0 t]

theorem blk1 (r : Fin 1536) (d : Fin 2880) :
    iblk m c 1 t (ix2 r d) = m ((c : Thread nD τ).loc main_arg1) (ix2 r d) := by
  blk_ext [iblk, V, idx1 t]

theorem blk2 (r : Fin 1536) (d : Fin 1) :
    iblk m c 2 t (ix2 r d) = m ((c : Thread nD τ).loc main_arg2) (ix2 r d) := by
  blk_ext [iblk, V, idx2 t]

theorem blk3 (k : Fin 256) (d : Fin 2880) (h : 256 * t.val + k.val < 32768) :
    iblk m c 3 t (ix2 k d) = m ((c : Thread nD τ).loc main_arg3) (ix2 ⟨256 * t.val + k.val, h⟩ d) := by
  blk_ext [iblk, V, idx3 t]

theorem blk4 (k : Fin 256) (d : Fin 1) (h : 256 * t.val + k.val < 32768) :
    iblk m c 4 t (ix2 k d) = m ((c : Thread nD τ).loc main_arg4) (ix1 ⟨256 * t.val + k.val, h⟩) := by
  blk_point [iblk, idx4 t]

theorem blk5 (r : Fin 1536) (d : Fin 1) :
    iblk m c 5 t (ix2 r d) = m ((c : Thread nD τ).loc main_arg5) (ix2 r d) := by
  blk_ext [iblk, V, idx5 t]

theorem blk6 (r : Fin 1536) (d : Fin 128) :
    iblk m c 6 t (ix2 r d) = m ((c : Thread nD τ).loc main_arg6) (ix2 r d) := by
  blk_ext [iblk, V, idx6 t]

end Cert.BackwardIdeal.Hand

end
-- ==== Proof.BackwardSum.lean ====
/- What the arrays of the backward kernel end holding, at an index, over the extended reals (hand-written, untrusted). -/
module

public import proofs.«01_k».proof.Proof.BackwardArrays

@[expose] public section

set_option maxRecDepth 16384

noncomputable section

open scoped BigOperators

namespace Cert.BackwardIdeal.Hand

open Cert.BackwardIdeal Cert.BackwardIdeal.Gen Cert.BackwardIdeal.Value Idealize.ShloMosaic Idealize.ShloMosaic.TcCoe Idealize.SL.Sem

/-! ## The mathematics, over whole arrays -/

/-- Lane `b + group of column v` of the statistics. -/
abbrev laneOf (b : ℕ) (hb : b ≤ 120) (v : Fin 32768) : Fin 128 := ⟨b + v.val / 4096, by have := v.isLt; omega⟩

/-- The code of row `r` and column `v`. -/
def codeAt (L : Vec Ideal ⟨2, ![1536, 32768]⟩ .f32) (lab : Vec Ideal ⟨2, ![1536, 1]⟩ .i32) (st : Vec Ideal ⟨2, ![1536, 128]⟩ .f32)
    (r : Fin 1536) (v : Fin 32768) : EReal :=
  code (L (ix2 r v)) (st (ix2 r 0)) (st (ix2 r (laneOf 8 (by omega) v))) (st (ix2 r (laneOf 16 (by omega) v)))
    (hot (BitVec.ofNat 32 v.val) (lab (ix2 r 0)))

/-- The dequantised gradient of row `r` and column `v`. -/
def gqAt (L : Vec Ideal ⟨2, ![1536, 32768]⟩ .f32) (lab : Vec Ideal ⟨2, ![1536, 1]⟩ .i32) (st : Vec Ideal ⟨2, ![1536, 128]⟩ .f32)
    (r : Fin 1536) (v : Fin 32768) : EReal :=
  codeAt L lab st r v * st (ix2 r (laneOf 24 (by omega) v))

/-- The gradient of the activations. -/
def dxAt (L : Vec Ideal ⟨2, ![1536, 32768]⟩ .f32) (w : Vec Ideal ⟨2, ![32768, 2880]⟩ .fp8e4m3) (ws : Vec Ideal ⟨1, ![32768]⟩ .f32)
    (lab : Vec Ideal ⟨2, ![1536, 1]⟩ .i32) (st : Vec Ideal ⟨2, ![1536, 128]⟩ .f32) (r : Fin 1536) (d : Fin 2880) : EReal :=
  ∑ v : Fin 32768, gqAt L lab st r v * (w (ix2 v d) * ws (ix1 v))

/-- The gradient of the weights. -/
def dwAt (L : Vec Ideal ⟨2, ![1536, 32768]⟩ .f32) (h : Vec Ideal ⟨2, ![1536, 2880]⟩ .fp8e4m3) (hs : Vec Ideal ⟨2, ![1536, 1]⟩ .f32)
    (lab : Vec Ideal ⟨2, ![1536, 1]⟩ .i32) (st : Vec Ideal ⟨2, ![1536, 128]⟩ .f32) (v : Fin 32768) (d : Fin 2880) : EReal :=
  ∑ r : Fin 1536, gqAt L lab st r v * (h (ix2 r d) * hs (ix2 r 0))

/-! ## The payloads at an index -/

theorem pay38_apply (w : Vec Ideal S256x2880 .fp8e4m3) (ws : Vec Ideal S256x1 .f32) (k : Fin 256) (d : Fin 2880) :
    k0_pay38 (F := Ideal) w ws (ix2 k d) = w (ix2 k d) * ws (ix2 k 0) := by
  pointwise [k0_pay38]

theorem pay39_apply (h : Vec Ideal S1536x2880 .fp8e4m3) (hs : Vec Ideal S1536x1 .f32) (g : Vec Ideal S1536x256 .bf16) (k : Fin 256) (d : Fin 2880) :
    k0_pay39 (F := Ideal) h hs g (ix2 k d) = ∑ r : Fin 1536, g (ix2 r k) * (h (ix2 r d) * hs (ix2 r 0)) := by
  pointwise [k0_pay39]

theorem pay40_apply (acc : Vec Ideal S1536x2880 .f32) (g : Vec Ideal S1536x256 .bf16) (w : Vec Ideal S256x2880 .bf16) (r : Fin 1536) (d : Fin 2880) :
    k0_pay1 (F := Ideal) (k0_pay40 acc g w) (ix2 r d) = acc (ix2 r d) + ∑ k : Fin 256, g (ix2 r k) * w (ix2 k d) := by
  pointwise [k0_pay1, k0_pay40]

theorem pay3_apply (r : Fin 1536) (d : Fin 2880) : k0_pay3 (F := Ideal) (ix2 r d) = 0 := by
  pointwise [k0_pay3]

theorem pay2_apply (x : Vec Ideal S1536x2880 .f32) (r : Fin 1536) (d : Fin 2880) : k0_pay2 (F := Ideal) x (ix2 r d) = x (ix2 r d) := by
  pointwise [k0_pay2]

/-! ## One point -/

variable (m : (ℓ : Loc nD τ sig) → Buf (Elt Ideal) ℓ) (c : Dev nD)

abbrev aL : Vec Ideal ⟨2, ![1536, 32768]⟩ .f32 := m ((c : Thread nD τ).loc main_arg0)
abbrev aH : Vec Ideal ⟨2, ![1536, 2880]⟩ .fp8e4m3 := m ((c : Thread nD τ).loc main_arg1)
abbrev aHs : Vec Ideal ⟨2, ![1536, 1]⟩ .f32 := m ((c : Thread nD τ).loc main_arg2)
abbrev aW : Vec Ideal ⟨2, ![32768, 2880]⟩ .fp8e4m3 := m ((c : Thread nD τ).loc main_arg3)
abbrev aWs : Vec Ideal ⟨1, ![32768]⟩ .f32 := m ((c : Thread nD τ).loc main_arg4)
abbrev aLab : Vec Ideal ⟨2, ![1536, 1]⟩ .i32 := m ((c : Thread nD τ).loc main_arg5)
abbrev aSt : Vec Ideal ⟨2, ![1536, 128]⟩ .f32 := m ((c : Thread nD τ).loc main_arg6)

/-- Column `k` of block `t`. -/
abbrev colOf (n : ℕ) (hn : n < 128) (k : Fin 256) : Fin 32768 := ⟨256 * n + k.val, by have := k.isLt; omega⟩

theorem lane_colOf (b : ℕ) (hb : b ≤ 120) (hb' : b ≤ 24) (n : ℕ) (hn : n < 128) (k : Fin 256) :
    laneOf b hb (colOf n hn k) = lane b n hb' hn := by
  apply Fin.ext
  show b + (256 * n + k.val) / 4096 = b + n / 16
  have := k.isLt
  omega

theorem codes_blk (t : Fin cfg0.N) (i : ℕ) (hi : i < 128) (e : i = t.val) (r : Fin 1536) (k : Fin 256) :
    codesOf i hi (iblk m c 0 t) (iblk m c 5 t) (iblk m c 6 t) (ix2 r k)
      = codeAt (aL m c) (aLab m c) (aSt m c) r (colOf t.val (t_lt t) k) := by
  subst e
  have := k.isLt
  have := t_lt t
  unfold codesOf codeAt
  rw [lane_colOf 8 _ (by omega), lane_colOf 16 _ (by omega)]
  show code (iblk m c 0 t (ix2 r k)) (iblk m c 6 t (ix2 r 0)) (iblk m c 6 t (ix2 r _)) (iblk m c 6 t (ix2 r _)) (hot _ (iblk m c 5 t (ix2 r 0))) = _
  rw [blk0 m c t r k (by omega), blk6, blk6, blk6, blk5]
  rfl

theorem gq_blk (t : Fin cfg0.N) (i : ℕ) (hi : i < 128) (e : i = t.val) (r : Fin 1536) (k : Fin 256) :
    gqOf i hi (iblk m c 0 t) (iblk m c 5 t) (iblk m c 6 t) (ix2 r k)
      = gqAt (aL m c) (aLab m c) (aSt m c) r (colOf t.val (t_lt t) k) := by
  unfold gqOf gqAt
  rw [codes_blk m c t i hi e r k]
  subst e
  rw [lane_colOf 24 _ (by omega)]
  show _ * iblk m c 6 t (ix2 r _) = _
  rw [blk6]

/-- What a point adds to the accumulator. -/
def part (n : ℕ) (hn : n < 128) (r : Fin 1536) (d : Fin 2880) : EReal :=
  ∑ k : Fin 256, gqAt (aL m c) (aLab m c) (aSt m c) r (colOf n hn k) * (aW m c (ix2 (colOf n hn k) d) * aWs m c (ix1 (colOf n hn k)))

theorem wq_blk (t : Fin cfg0.N) (k : Fin 256) (d : Fin 2880) :
    k0_pay38 (F := Ideal) (iblk m c 3 t) (iblk m c 4 t) (ix2 k d)
      = aW m c (ix2 (colOf t.val (t_lt t) k) d) * aWs m c (ix1 (colOf t.val (t_lt t) k)) := by
  have ht := t_lt t
  have hk := k.isLt
  rw [pay38_apply, blk3 m c t k d (by omega), blk4 m c t k 0 (by omega)]

theorem accStep_apply (t : Fin cfg0.N) (i : ℕ) (hi : i < 128) (e : i = t.val) (acc : Vec Ideal S1536x2880 .f32) (r : Fin 1536) (d : Fin 2880) :
    accStep i hi (iblk m c 0 t) (iblk m c 3 t) (iblk m c 4 t) (iblk m c 5 t) (iblk m c 6 t) acc (ix2 r d)
      = acc (ix2 r d) + part m c t.val (t_lt t) r d :=
  (pay40_apply acc (gqOf i hi (iblk m c 0 t) (iblk m c 5 t) (iblk m c 6 t)) (k0_pay38 (F := Ideal) (iblk m c 3 t) (iblk m c 4 t)) r d).trans
    (congrArg (fun s => acc (ix2 r d) + s) (Finset.sum_congr rfl fun k _ =>
      congrArg₂ (fun a b : EReal => a * b) (gq_blk m c t i hi e r k) (wq_blk m c t k d)))

theorem point_A_codes (t : Fin cfg0.N) (acc : Vec Ideal S1536x2880 .bf16 × Vec Ideal S256x2880 .f32 × Vec Ideal S1536x256 .fp8e5m2 × Vec Ideal S1536x2880 .f32) (h0 : t.val % 128 = 0) (h1 : ¬t.val % 128 = 127) :
    (stAt0 m c t.val t.isLt acc).2.2.1 = codesOf (grid0.coords t 0).val (coord_lt _) (iblk m c 0 t) (iblk m c 5 t) (iblk m c 6 t) := by
  have e := out0_A_9_eq c t ((hcond0_0 t).mpr h0) (fun h => h1 ((hcond0_1 t).mp h)) (iblk m c 0 t) (iblk m c 1 t) (iblk m c 2 t) (iblk m c 3 t) (iblk m c 4 t) (iblk m c 5 t) (iblk m c 6 t)
  have e2 := congrArg (fun s => s.2.2.1) (stAt0_A m c t acc h0 h1)
  dsimp only at e2
  rw [e] at e2
  exact e2

theorem point_A_dw (t : Fin cfg0.N) (acc : Vec Ideal S1536x2880 .bf16 × Vec Ideal S256x2880 .f32 × Vec Ideal S1536x256 .fp8e5m2 × Vec Ideal S1536x2880 .f32) (h0 : t.val % 128 = 0) (h1 : ¬t.val % 128 = 127) :
    (stAt0 m c t.val t.isLt acc).2.1 = k0_pay39 (F := Ideal) (iblk m c 1 t) (iblk m c 2 t) (gqOf (grid0.coords t 0).val (coord_lt _) (iblk m c 0 t) (iblk m c 5 t) (iblk m c 6 t)) := by
  have e := out0_A_8_eq c t ((hcond0_0 t).mpr h0) (fun h => h1 ((hcond0_1 t).mp h)) (iblk m c 0 t) (iblk m c 1 t) (iblk m c 2 t) (iblk m c 3 t) (iblk m c 4 t) (iblk m c 5 t) (iblk m c 6 t)
  have e2 := congrArg (fun s => s.2.1) (stAt0_A m c t acc h0 h1)
  dsimp only at e2
  rw [e] at e2
  exact e2

theorem point_A_acc (t : Fin cfg0.N) (acc : Vec Ideal S1536x2880 .bf16 × Vec Ideal S256x2880 .f32 × Vec Ideal S1536x256 .fp8e5m2 × Vec Ideal S1536x2880 .f32) (h0 : t.val % 128 = 0) (h1 : ¬t.val % 128 = 127) :
    (stAt0 m c t.val t.isLt acc).2.2.2 = accStep (grid0.coords t 0).val (coord_lt _) (iblk m c 0 t) (iblk m c 3 t) (iblk m c 4 t) (iblk m c 5 t) (iblk m c 6 t) (k0_pay3 (F := Ideal)) := by
  have e := sout0_A_0_eq c t ((hcond0_0 t).mpr h0) (fun h => h1 ((hcond0_1 t).mp h)) (iblk m c 0 t) (iblk m c 1 t) (iblk m c 2 t) (iblk m c 3 t) (iblk m c 4 t) (iblk m c 5 t) (iblk m c 6 t)
  have e2 := congrArg (fun s => s.2.2.2) (stAt0_A m c t acc h0 h1)
  dsimp only at e2
  rw [e] at e2
  exact e2

theorem point_B_codes (t : Fin cfg0.N) (acc : Vec Ideal S1536x2880 .bf16 × Vec Ideal S256x2880 .f32 × Vec Ideal S1536x256 .fp8e5m2 × Vec Ideal S1536x2880 .f32) (h0 : ¬t.val % 128 = 0) (h1 : ¬t.val % 128 = 127) :
    (stAt0 m c t.val t.isLt acc).2.2.1 = codesOf (grid0.coords t 0).val (coord_lt _) (iblk m c 0 t) (iblk m c 5 t) (iblk m c 6 t) := by
  have e := out0_B_9_eq c t (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2
  have e2 := congrArg (fun s => s.2.2.1) (stAt0_B m c t acc h0 h1)
  dsimp only at e2
  rw [e] at e2
  exact e2

theorem point_B_dw (t : Fin cfg0.N) (acc : Vec Ideal S1536x2880 .bf16 × Vec Ideal S256x2880 .f32 × Vec Ideal S1536x256 .fp8e5m2 × Vec Ideal S1536x2880 .f32) (h0 : ¬t.val % 128 = 0) (h1 : ¬t.val % 128 = 127) :
    (stAt0 m c t.val t.isLt acc).2.1 = k0_pay39 (F := Ideal) (iblk m c 1 t) (iblk m c 2 t) (gqOf (grid0.coords t 0).val (coord_lt _) (iblk m c 0 t) (iblk m c 5 t) (iblk m c 6 t)) := by
  have e := out0_B_8_eq c t (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2
  have e2 := congrArg (fun s => s.2.1) (stAt0_B m c t acc h0 h1)
  dsimp only at e2
  rw [e] at e2
  exact e2

theorem point_B_acc (t : Fin cfg0.N) (acc : Vec Ideal S1536x2880 .bf16 × Vec Ideal S256x2880 .f32 × Vec Ideal S1536x256 .fp8e5m2 × Vec Ideal S1536x2880 .f32) (h0 : ¬t.val % 128 = 0) (h1 : ¬t.val % 128 = 127) :
    (stAt0 m c t.val t.isLt acc).2.2.2 = accStep (grid0.coords t 0).val (coord_lt _) (iblk m c 0 t) (iblk m c 3 t) (iblk m c 4 t) (iblk m c 5 t) (iblk m c 6 t) acc.2.2.2 := by
  have e := sout0_B_0_eq c t (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2
  have e2 := congrArg (fun s => s.2.2.2) (stAt0_B m c t acc h0 h1)
  dsimp only at e2
  rw [e] at e2
  exact e2

theorem point_C_codes (t : Fin cfg0.N) (acc : Vec Ideal S1536x2880 .bf16 × Vec Ideal S256x2880 .f32 × Vec Ideal S1536x256 .fp8e5m2 × Vec Ideal S1536x2880 .f32) (h0 : ¬t.val % 128 = 0) (h1 : t.val % 128 = 127) :
    (stAt0 m c t.val t.isLt acc).2.2.1 = codesOf (grid0.coords t 0).val (coord_lt _) (iblk m c 0 t) (iblk m c 5 t) (iblk m c 6 t) := by
  have e := out0_C_9_eq c t (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2
  have e2 := congrArg (fun s => s.2.2.1) (stAt0_C m c t acc h0 h1)
  dsimp only at e2
  rw [e] at e2
  exact e2

theorem point_C_dw (t : Fin cfg0.N) (acc : Vec Ideal S1536x2880 .bf16 × Vec Ideal S256x2880 .f32 × Vec Ideal S1536x256 .fp8e5m2 × Vec Ideal S1536x2880 .f32) (h0 : ¬t.val % 128 = 0) (h1 : t.val % 128 = 127) :
    (stAt0 m c t.val t.isLt acc).2.1 = k0_pay39 (F := Ideal) (iblk m c 1 t) (iblk m c 2 t) (gqOf (grid0.coords t 0).val (coord_lt _) (iblk m c 0 t) (iblk m c 5 t) (iblk m c 6 t)) := by
  have e := out0_C_8_eq c t (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2
  have e2 := congrArg (fun s => s.2.1) (stAt0_C m c t acc h0 h1)
  dsimp only at e2
  rw [e] at e2
  exact e2

theorem point_C_acc (t : Fin cfg0.N) (acc : Vec Ideal S1536x2880 .bf16 × Vec Ideal S256x2880 .f32 × Vec Ideal S1536x256 .fp8e5m2 × Vec Ideal S1536x2880 .f32) (h0 : ¬t.val % 128 = 0) (h1 : t.val % 128 = 127) :
    (stAt0 m c t.val t.isLt acc).2.2.2 = accStep (grid0.coords t 0).val (coord_lt _) (iblk m c 0 t) (iblk m c 3 t) (iblk m c 4 t) (iblk m c 5 t) (iblk m c 6 t) acc.2.2.2 := by
  have e := sout0_C_0_eq c t (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2
  have e2 := congrArg (fun s => s.2.2.2) (stAt0_C m c t acc h0 h1)
  dsimp only at e2
  rw [e] at e2
  exact e2

theorem point_C_dx (t : Fin cfg0.N) (acc : Vec Ideal S1536x2880 .bf16 × Vec Ideal S256x2880 .f32 × Vec Ideal S1536x256 .fp8e5m2 × Vec Ideal S1536x2880 .f32) (h0 : ¬t.val % 128 = 0) (h1 : t.val % 128 = 127) :
    (stAt0 m c t.val t.isLt acc).1 = k0_pay2 (accStep (grid0.coords t 0).val (coord_lt _) (iblk m c 0 t) (iblk m c 3 t) (iblk m c 4 t) (iblk m c 5 t) (iblk m c 6 t) acc.2.2.2) := by
  have e := out0_C_7_eq c t (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2
  have e2 := congrArg (fun s => s.1) (stAt0_C m c t acc h0 h1)
  dsimp only at e2
  rw [e] at e2
  exact e2

theorem st_codes (t : Fin cfg0.N) (acc : Vec Ideal S1536x2880 .bf16 × Vec Ideal S256x2880 .f32 × Vec Ideal S1536x256 .fp8e5m2 × Vec Ideal S1536x2880 .f32) (r : Fin 1536) (k : Fin 256) :
    (stAt0 m c t.val t.isLt acc).2.2.1 (ix2 r k) = codeAt (aL m c) (aLab m c) (aSt m c) r (colOf t.val (t_lt t) k) := by
  by_cases h0 : t.val % 128 = 0
  · have h1 : ¬t.val % 128 = 127 := by omega
    rw [point_A_codes m c t acc h0 h1]
    exact codes_blk m c t (grid0.coords t 0).val (coord_lt _) (coords_val t) r k
  · by_cases h1 : t.val % 128 = 127
    · rw [point_C_codes m c t acc h0 h1]
      exact codes_blk m c t (grid0.coords t 0).val (coord_lt _) (coords_val t) r k
    · rw [point_B_codes m c t acc h0 h1]
      exact codes_blk m c t (grid0.coords t 0).val (coord_lt _) (coords_val t) r k

theorem dw_blk (t : Fin cfg0.N) (i : ℕ) (hi : i < 128) (e : i = t.val) (k : Fin 256) (d : Fin 2880) :
    k0_pay39 (F := Ideal) (iblk m c 1 t) (iblk m c 2 t) (gqOf i hi (iblk m c 0 t) (iblk m c 5 t) (iblk m c 6 t)) (ix2 k d)
      = dwAt (aL m c) (aH m c) (aHs m c) (aLab m c) (aSt m c) (colOf t.val (t_lt t) k) d := by
  rw [pay39_apply]
  unfold dwAt
  refine Finset.sum_congr rfl fun r _ => ?_
  rw [gq_blk m c t i hi e r k, blk1, blk2]

theorem st_dw (t : Fin cfg0.N) (acc : Vec Ideal S1536x2880 .bf16 × Vec Ideal S256x2880 .f32 × Vec Ideal S1536x256 .fp8e5m2 × Vec Ideal S1536x2880 .f32) (k : Fin 256) (d : Fin 2880) :
    (stAt0 m c t.val t.isLt acc).2.1 (ix2 k d)
      = dwAt (aL m c) (aH m c) (aHs m c) (aLab m c) (aSt m c) (colOf t.val (t_lt t) k) d := by
  by_cases h0 : t.val % 128 = 0
  · have h1 : ¬t.val % 128 = 127 := by omega
    rw [point_A_dw m c t acc h0 h1]
    exact dw_blk m c t (grid0.coords t 0).val (coord_lt _) (coords_val t) k d
  · by_cases h1 : t.val % 128 = 127
    · rw [point_C_dw m c t acc h0 h1]
      exact dw_blk m c t (grid0.coords t 0).val (coord_lt _) (coords_val t) k d
    · rw [point_B_dw m c t acc h0 h1]
      exact dw_blk m c t (grid0.coords t 0).val (coord_lt _) (coords_val t) k d

theorem st_acc_zero (t : Fin cfg0.N) (acc : Vec Ideal S1536x2880 .bf16 × Vec Ideal S256x2880 .f32 × Vec Ideal S1536x256 .fp8e5m2 × Vec Ideal S1536x2880 .f32) (h0 : t.val % 128 = 0) (r : Fin 1536) (d : Fin 2880) :
    (stAt0 m c t.val t.isLt acc).2.2.2 (ix2 r d) = part m c t.val (t_lt t) r d := by
  have h1 : ¬t.val % 128 = 127 := by omega
  rw [point_A_acc m c t acc h0 h1]
  refine (accStep_apply m c t (grid0.coords t 0).val (coord_lt _) (coords_val t) (k0_pay3 (F := Ideal)) r d).trans ?_
  rw [pay3_apply, zero_add]

theorem st_acc (t : Fin cfg0.N) (acc : Vec Ideal S1536x2880 .bf16 × Vec Ideal S256x2880 .f32 × Vec Ideal S1536x256 .fp8e5m2 × Vec Ideal S1536x2880 .f32) (h0 : ¬t.val % 128 = 0) (r : Fin 1536) (d : Fin 2880) :
    (stAt0 m c t.val t.isLt acc).2.2.2 (ix2 r d) = acc.2.2.2 (ix2 r d) + part m c t.val (t_lt t) r d := by
  by_cases h1 : t.val % 128 = 127
  · rw [point_C_acc m c t acc h0 h1]
    exact accStep_apply m c t (grid0.coords t 0).val (coord_lt _) (coords_val t) acc.2.2.2 r d
  · rw [point_B_acc m c t acc h0 h1]
    exact accStep_apply m c t (grid0.coords t 0).val (coord_lt _) (coords_val t) acc.2.2.2 r d

theorem st_dx (t : Fin cfg0.N) (acc : Vec Ideal S1536x2880 .bf16 × Vec Ideal S256x2880 .f32 × Vec Ideal S1536x256 .fp8e5m2 × Vec Ideal S1536x2880 .f32) (h0 : ¬t.val % 128 = 0) (h1 : t.val % 128 = 127) (r : Fin 1536) (d : Fin 2880) :
    (stAt0 m c t.val t.isLt acc).1 (ix2 r d) = acc.2.2.2 (ix2 r d) + part m c t.val (t_lt t) r d := by
  rw [point_C_dx m c t acc h0 h1, pay2_apply]
  exact accStep_apply m c t (grid0.coords t 0).val (coord_lt _) (coords_val t) acc.2.2.2 r d

/-! ## The fold over the points -/

/-- `part` for any number, zero outside the grid. -/
def partN (r : Fin 1536) (d : Fin 2880) (n : ℕ) : EReal := if h : n < 128 then part m c n h r d else 0

theorem outs_acc (r : Fin 1536) (d : Fin 2880) : ∀ (n : ℕ) (h : n < cfg0.N),
    (outsAt0 m c n h).2.2.2 (ix2 r d) = ∑ j ∈ Finset.range (n + 1), partN m c r d j
  | 0, h => by
    rw [outsAt0_zero, st_acc_zero m c ⟨0, h⟩ _ rfl, Finset.sum_range_one]
    rw [partN, dif_pos (by omega)]
  | n + 1, h => by
    have hN : n + 1 < 128 := lt_of_lt_of_eq h N_0
    rw [outsAt0_succ, st_acc m c ⟨n + 1, h⟩ _ (by dsimp only; omega), outs_acc r d n, Finset.sum_range_succ _ (n + 1)]
    congr 1
    rw [partN, dif_pos hN]

theorem outs_dx (r : Fin 1536) (d : Fin 2880) (h : 127 < cfg0.N) :
    (outsAt0 m c 127 h).1 (ix2 r d) = ∑ j ∈ Finset.range 128, partN m c r d j := by
  rw [outsAt0_succ m c 126, st_dx m c ⟨126 + 1, h⟩ _ (by dsimp only; omega) (by dsimp only), outs_acc, Finset.sum_range_succ _ 127]
  rw [partN, dif_pos (by omega)]

theorem sum_blocks (f : Fin 32768 → EReal) :
    ∑ n : Fin 128, ∑ k : Fin 256, f (colOf n.val n.isLt k) = ∑ v : Fin 32768, f v := by
  rw [← Fintype.sum_prod_type']
  refine Fintype.sum_equiv (finProdFinEquiv (m := 128) (n := 256)) _ _ fun p => ?_
  congr 1
  apply Fin.ext
  show 256 * p.1.val + p.2.val = p.2.val + 256 * p.1.val
  omega

theorem outs_dx' (r : Fin 1536) (d : Fin 2880) (h : 127 < cfg0.N) :
    (outsAt0 m c 127 h).1 (ix2 r d) = dxAt (aL m c) (aW m c) (aWs m c) (aLab m c) (aSt m c) r d := by
  rw [outs_dx, ← Fin.sum_univ_eq_sum_range]
  unfold dxAt
  rw [← sum_blocks]
  refine Finset.sum_congr rfl fun n _ => ?_
  rw [partN, dif_pos n.isLt]
  rfl

/-! ## The arrays -/

theorem G7_apply (r : Fin 1536) (d : Fin 2880) :
    G7 m c (ix2 r d) = dxAt (aL m c) (aW m c) (aWs m c) (aLab m c) (aSt m c) r d := by
  have h : 127 < cfg0.N := lt_of_lt_of_eq (by decide) N_0.symm
  rw [G7_last, ← outsAt0_sweep m c 127 h]
  exact outs_dx' m c r d h

theorem outs_dw (k : Fin 256) (d : Fin 2880) : ∀ (n : ℕ) (h : n < cfg0.N),
    (outsAt0 m c n h).2.1 (ix2 k d) = dwAt (aL m c) (aH m c) (aHs m c) (aLab m c) (aSt m c) (colOf n (lt_of_lt_of_eq h N_0) k) d
  | 0, h => by rw [outsAt0_zero]; exact st_dw m c ⟨0, h⟩ _ k d
  | n + 1, h => by rw [outsAt0_succ]; exact st_dw m c ⟨n + 1, h⟩ _ k d

theorem outs_codes (r : Fin 1536) (k : Fin 256) : ∀ (n : ℕ) (h : n < cfg0.N),
    (outsAt0 m c n h).2.2.1 (ix2 r k) = codeAt (aL m c) (aLab m c) (aSt m c) r (colOf n (lt_of_lt_of_eq h N_0) k)
  | 0, h => by rw [outsAt0_zero]; exact st_codes m c ⟨0, h⟩ _ r k
  | n + 1, h => by rw [outsAt0_succ]; exact st_codes m c ⟨n + 1, h⟩ _ r k

theorem G8_apply (v : Fin 32768) (d : Fin 2880) :
    G8 m c (ix2 v d) = dwAt (aL m c) (aH m c) (aHs m c) (aLab m c) (aSt m c) v d := by
  have hv := v.isLt
  have hd := d.isLt
  have hp : pt8Of (ix2 v d) = v.val / 256 := by
    show 1 * (v.val / 256 - 0) + 1 * (d.val / 2880 - 0) = _
    omega
  have hl : loc8Of (ix2 v d) = ix2 (⟨v.val % 256, Nat.mod_lt _ (by decide)⟩ : Fin 256) d := by
    funext a; apply Fin.ext
    match a with
    | ⟨0, _⟩ => rfl
    | ⟨1, _⟩ => show d.val % 2880 = d.val; omega
  have hb : v.val / 256 < cfg0.N := lt_of_lt_of_eq (by omega) N_0.symm
  unfold G8
  rw [dif_pos (by rw [hp]; exact hb), hl, fold0_congr m c _ _ _ (by omega) hp, ← outsAt0_sweep m c _ hb, outs_dw]
  congr 1
  apply Fin.ext
  show 256 * (v.val / 256) + v.val % 256 = v.val
  omega

theorem G9_apply (r : Fin 1536) (v : Fin 32768) :
    G9 m c (ix2 r v) = codeAt (aL m c) (aLab m c) (aSt m c) r v := by
  have hv := v.isLt
  have hr := r.isLt
  have hp : pt9Of (ix2 r v) = v.val / 256 := by
    show 128 * (r.val / 1536 - 0) + 1 * (v.val / 256 - 0) = _
    omega
  have hl : loc9Of (ix2 r v) = ix2 r (⟨v.val % 256, Nat.mod_lt _ (by decide)⟩ : Fin 256) := by
    funext a; apply Fin.ext
    match a with
    | ⟨0, _⟩ => show r.val % 1536 = r.val; omega
    | ⟨1, _⟩ => rfl
  have hb : v.val / 256 < cfg0.N := lt_of_lt_of_eq (by omega) N_0.symm
  unfold G9
  rw [dif_pos (by rw [hp]; exact hb), hl, fold0_congr m c _ _ _ (by omega) hp, ← outsAt0_sweep m c _ hb, outs_codes]
  congr 1
  apply Fin.ext
  show 256 * (v.val / 256) + v.val % 256 = v.val
  omega

end Cert.BackwardIdeal.Hand

end
-- ==== Proof.RefBackward.lean ====
/- What the arrays of the reference for the backward kernel end holding, at an index, over the extended reals (hand-written, untrusted). -/
module

public import proofs.«01_k».proof.Proof.BackwardSum
public import proofs.«01_k».proof.Proof.Gen.RefBackwardIdeal.Value

@[expose] public section

set_option maxRecDepth 16384

noncomputable section

open scoped BigOperators

namespace Cert.RefBackwardIdeal.Hand

open Cert.RefBackwardIdeal Cert.RefBackwardIdeal.Gen Cert.RefBackwardIdeal.Value Idealize.ShloMosaic Idealize.ShloMosaic.TcCoe Idealize.SL.Sem

open Cert.BackwardIdeal.Hand (code hot laneOf codeAt gqAt dxAt dwAt)

theorem word_eq (a b : BitVec 32) : (FloatOps.sitofp (F := Ideal) FTy.f32 (BitVec.setWidth 32 (IntOp.cmpi CmpIPredicate.eq a b)) : EReal) = hot a b := by
  by_cases h : a = b
  · subst h
    have e : BitVec.setWidth 32 (IntOp.cmpi CmpIPredicate.eq a a) = 1#32 := by simp [IntOp.cmpi]
    rw [e, hot, if_pos rfl]
    show (((1#32 : BitVec 32).toInt : ℝ) : EReal) = 1
    simp
  · have hb : (a == b) = false := by simpa using h
    have e : BitVec.setWidth 32 (IntOp.cmpi CmpIPredicate.eq a b) = 0#32 := by simp [IntOp.cmpi, hb]
    rw [e, hot, if_neg h]
    show (((0#32 : BitVec 32).toInt : ℝ) : EReal) = 0
    simp

theorem pay3_apply (st : Vec Ideal S1536x128 .f32) (L : Vec Ideal S1536x32768 .f32) (lab : Vec Ideal S1536x1 .i32) (r : Fin 1536) (v : Fin 32768) :
    k0_pay3 (F := Ideal) st L lab (ix2 r v) = codeAt L lab st r v := by
  pointwise [k0_pay3]
  rw [word_eq]
  rfl

theorem pay4_apply (st : Vec Ideal S1536x128 .f32) (L : Vec Ideal S1536x32768 .f32) (lab : Vec Ideal S1536x1 .i32) (r : Fin 1536) (v : Fin 32768) :
    k0_pay4 (F := Ideal) st L lab (ix2 r v) = gqAt L lab st r v := by
  pointwise [k0_pay4]
  rw [pay3_apply]
  rfl

variable (x0 : Vec Ideal S1536x32768 .f32) (x1 : Vec Ideal S1536x2880 .fp8e4m3) (x2 : Vec Ideal S1536x1 .f32)
  (x3 : Vec Ideal S32768x2880 .fp8e4m3) (x4 : Vec Ideal S32768x1 .f32) (x5 : Vec Ideal S1536x1 .i32) (x6 : Vec Ideal S1536x128 .f32)

theorem z2 : (![0, 0] : Fin 2 → ℕ) = fun _ => 0 := by
  funext a; fin_cases a <;> rfl

theorem pay7_apply (r : Fin 1536) (v : Fin 32768) :
    k0_pay7 (F := Ideal) x0 x1 x2 x3 x4 x5 x6 (ix2 r v) = gqAt x0 x5 x6 r v := by
  unfold k0_pay7 r0_0 r0_1 r0_2
  simp only [View.ld_unit_zero (S := S1536x128) z2, View.ld_unit_zero (S := S1536x32768) z2, View.ld_unit_zero (S := S1536x1) z2]
  exact pay4_apply _ _ _ r v

theorem out7_apply (ws : Vec Ideal ⟨1, ![32768]⟩ .f32) (hws : ∀ v, x4 (ix2 v 0) = ws (ix1 v)) (r : Fin 1536) (d : Fin 2880) :
    out0_7 (F := Ideal) x0 x1 x2 x3 x4 x5 x6 (ix2 r d) = dxAt x0 x3 ws x5 x6 r d := by
  unfold out0_7 r0_5 r0_3 r0_4
  rw [View.canon_unit_zero z2]
  simp only [View.ld_unit_zero (S := S32768x2880) z2, View.ld_unit_zero (S := S32768x1) z2]
  pointwise [k0_pay1, k0_pay5, k0_pay6]
  unfold dxAt
  refine Finset.sum_congr rfl fun v _ => ?_
  rw [pay7_apply, hws]

theorem out8_apply (v : Fin 32768) (d : Fin 2880) :
    out0_8 (F := Ideal) x0 x1 x2 x3 x4 x5 x6 (ix2 v d) = dwAt x0 x1 x2 x5 x6 v d := by
  unfold out0_8 r0_5 r0_3 r0_2
  rw [View.canon_unit_zero z2]
  simp only [View.ld_unit_zero (S := S1536x2880) z2, View.ld_unit_zero (S := S1536x1) z2]
  pointwise [k0_pay2]
  unfold dwAt
  refine Finset.sum_congr rfl fun r _ => ?_
  rw [pay7_apply]

theorem out9_apply (r : Fin 1536) (v : Fin 32768) :
    out0_9 (F := Ideal) x0 x1 x2 x3 x4 x5 x6 (ix2 r v) = codeAt x0 x5 x6 r v := by
  unfold out0_9 r0_0 r0_1 r0_2
  rw [View.canon_unit_zero z2]
  simp only [View.ld_unit_zero (S := S1536x128) z2, View.ld_unit_zero (S := S1536x32768) z2, View.ld_unit_zero (S := S1536x1) z2]
  exact pay3_apply _ _ _ r v

/-! ## The arrays -/

variable (m : (ℓ : Loc nD τ sig) → Buf (Elt Ideal) ℓ) (c : Dev nD) (t : Fin cfg0.N)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel

theorem blk0 : iblk m c 0 t = m ((c : Thread nD τ).loc main_arg0) := by
  funext y
  blk_ext [iblk, V, idx0 t]
theorem blk1 : iblk m c 1 t = m ((c : Thread nD τ).loc main_arg1) := by
  funext y
  blk_ext [iblk, V, idx1 t]
theorem blk2 : iblk m c 2 t = m ((c : Thread nD τ).loc main_arg2) := by
  funext y
  blk_ext [iblk, V, idx2 t]
theorem blk3 : iblk m c 3 t = m ((c : Thread nD τ).loc main_arg3) := by
  funext y
  blk_ext [iblk, V, idx3 t]
theorem blk4 (v : Fin 32768) : iblk m c 4 t (ix2 v 0) = m ((c : Thread nD τ).loc main_arg4) (ix1 v) := by
  blk_point [iblk, idx4 t]
theorem blk5 : iblk m c 5 t = m ((c : Thread nD τ).loc main_arg5) := by
  funext y
  blk_ext [iblk, V, idx5 t]
theorem blk6 : iblk m c 6 t = m ((c : Thread nD τ).loc main_arg6) := by
  funext y
  blk_ext [iblk, V, idx6 t]

abbrev aL : Vec Ideal ⟨2, ![1536, 32768]⟩ .f32 := m ((c : Thread nD τ).loc main_arg0)
abbrev aH : Vec Ideal ⟨2, ![1536, 2880]⟩ .fp8e4m3 := m ((c : Thread nD τ).loc main_arg1)
abbrev aHs : Vec Ideal ⟨2, ![1536, 1]⟩ .f32 := m ((c : Thread nD τ).loc main_arg2)
abbrev aW : Vec Ideal ⟨2, ![32768, 2880]⟩ .fp8e4m3 := m ((c : Thread nD τ).loc main_arg3)
abbrev aWs : Vec Ideal ⟨1, ![32768]⟩ .f32 := m ((c : Thread nD τ).loc main_arg4)
abbrev aLab : Vec Ideal ⟨2, ![1536, 1]⟩ .i32 := m ((c : Thread nD τ).loc main_arg5)
abbrev aSt : Vec Ideal ⟨2, ![1536, 128]⟩ .f32 := m ((c : Thread nD τ).loc main_arg6)

theorem arr7_eq : (dats m 0 c).arrAt 7 cfg0.N = (fun i : S1536x2880.Idx => dxAt (aL m c) (aW m c) (aWs m c) (aLab m c) (aSt m c) (i 0) (i 1)) := by
  refine (dats m 0 c).arrAt_eq_of_covers 7 _ (by decide +kernel) fun t hf y => ?_
  blk_simp
  rw [after0_7]
  obtain ⟨r, d, rfl⟩ : ∃ (r : Fin 1536) (d : Fin 2880), y = ix2 r d := ⟨y 0, y 1, eq_ix2 y⟩
  have e : (win0_7.blk t).view.emb (ix2 r d) = ix2 r d := by blk_ext [idx7 t]
  rw [e]
  refine (out7_apply _ _ _ _ _ _ _ (aWs m c) (fun v => blk4 m c t v) r d).trans ?_
  rw [blk0, blk3, blk5, blk6]
  rfl

theorem arr8_eq : (dats m 0 c).arrAt 8 cfg0.N = (fun i : S32768x2880.Idx => dwAt (aL m c) (aH m c) (aHs m c) (aLab m c) (aSt m c) (i 0) (i 1)) := by
  refine (dats m 0 c).arrAt_eq_of_covers 8 _ (by decide +kernel) fun t hf y => ?_
  blk_simp
  rw [after0_8]
  obtain ⟨v, d, rfl⟩ : ∃ (v : Fin 32768) (d : Fin 2880), y = ix2 v d := ⟨y 0, y 1, eq_ix2 y⟩
  have e : (win0_8.blk t).view.emb (ix2 v d) = ix2 v d := by blk_ext [idx8 t]
  rw [e]
  refine (out8_apply _ _ _ _ _ _ _ v d).trans ?_
  rw [blk0, blk1, blk2, blk5, blk6]
  rfl

theorem arr9_eq : (dats m 0 c).arrAt 9 cfg0.N = (fun i : S1536x32768.Idx => codeAt (aL m c) (aLab m c) (aSt m c) (i 0) (i 1)) := by
  refine (dats m 0 c).arrAt_eq_of_covers 9 _ (by decide +kernel) fun t hf y => ?_
  blk_simp
  rw [after0_9]
  obtain ⟨r, v, rfl⟩ : ∃ (r : Fin 1536) (v : Fin 32768), y = ix2 r v := ⟨y 0, y 1, eq_ix2 y⟩
  have e : (win0_9.blk t).view.emb (ix2 r v) = ix2 r v := by blk_ext [idx9 t]
  rw [e]
  refine (out9_apply _ _ _ _ _ _ _ r v).trans ?_
  rw [blk0, blk5, blk6]
  rfl

end Cert.RefBackwardIdeal.Hand
end
-- ==== Proof.BackwardClaim.lean ====
/- The value claim of the backward kernel: its three arrays are the reference's, over the extended reals (hand-written, untrusted). -/
module

public import proofs.«01_k».proof.Defs
public import proofs.«01_k».proof.Proof.RefBackward

@[expose] public section

noncomputable section

namespace Cert.Proof

open Idealize.ShloMosaic Idealize.SL.Sem
open Cert.BackwardIdeal.Hand (codeAt dxAt dwAt aL aH aHs aW aWs aLab aSt)

theorem algebraic_backward : Cert.algebraic_BackwardIdeal_RefBackwardIdeal := by
  intro m g m' g' _ hag
  refine ⟨fun c => fun i : Cert.BackwardIdeal.S1536x2880.Idx => dxAt (aL m c) (aW m c) (aWs m c) (aLab m c) (aSt m c) (i 0) (i 1),
    fun c => fun i : Cert.BackwardIdeal.S32768x2880.Idx => dwAt (aL m c) (aH m c) (aHs m c) (aLab m c) (aSt m c) (i 0) (i 1),
    fun c => fun i : Cert.BackwardIdeal.S1536x32768.Idx => codeAt (aL m c) (aLab m c) (aSt m c) (i 0) (i 1), ?_, ?_⟩
  · refine (θ_run _ _ _).mono (fun r h c => ?_) (Cert.BackwardIdeal.Value.run (F := Ideal) m g)
    obtain ⟨h7, h8, h9, ha⟩ := h c
    refine ⟨h7.trans ?_, h8.trans ?_, h9.trans ?_, ha⟩
    · funext i
      obtain ⟨r, d, rfl⟩ : ∃ (r : Fin 1536) (d : Fin 2880), i = ix2 r d := ⟨i 0, i 1, eq_ix2 i⟩
      exact Cert.BackwardIdeal.Hand.G7_apply m c r d
    · funext i
      obtain ⟨r, d, rfl⟩ : ∃ (r : Fin 32768) (d : Fin 2880), i = ix2 r d := ⟨i 0, i 1, eq_ix2 i⟩
      exact Cert.BackwardIdeal.Hand.G8_apply m c r d
    · funext i
      obtain ⟨r, d, rfl⟩ : ∃ (r : Fin 1536) (d : Fin 32768), i = ix2 r d := ⟨i 0, i 1, eq_ix2 i⟩
      exact Cert.BackwardIdeal.Hand.G9_apply m c r d
  · refine (θ_run _ _ _).mono (fun r h c => ?_) (Cert.RefBackwardIdeal.Value.run_blocks (F := Ideal) m' g')
    obtain ⟨h7, h8, h9, ha⟩ := h c
    obtain ⟨e0, e1, e2, e3, e4, e5, e6⟩ := hag c
    have f0 : Cert.RefBackwardIdeal.Hand.aL m' c = aL m c := e0
    have f1 : Cert.RefBackwardIdeal.Hand.aH m' c = aH m c := e1
    have f2 : Cert.RefBackwardIdeal.Hand.aHs m' c = aHs m c := e2
    have f3 : Cert.RefBackwardIdeal.Hand.aW m' c = aW m c := e3
    have f4 : Cert.RefBackwardIdeal.Hand.aWs m' c = aWs m c := e4
    have f5 : Cert.RefBackwardIdeal.Hand.aLab m' c = aLab m c := e5
    have f6 : Cert.RefBackwardIdeal.Hand.aSt m' c = aSt m c := e6
    refine ⟨h7.trans ((Cert.RefBackwardIdeal.Hand.arr7_eq m' c).trans ?_), h8.trans ((Cert.RefBackwardIdeal.Hand.arr8_eq m' c).trans ?_),
      h9.trans ((Cert.RefBackwardIdeal.Hand.arr9_eq m' c).trans ?_), ha⟩
    · rw [f0, f3, f4, f5, f6]
    · rw [f0, f1, f2, f5, f6]
    · rw [f0, f5, f6]

end Cert.Proof

end
-- ==== Proof.ForwardMath.lean ====
/- The softmax taken block by block, and a row group's greatest gradient, over the extended reals (hand-written, untrusted). -/
module

public import Idealize.ShloMosaic.Lib.Pointwise
public import Mathlib.Data.EReal.Inv
public import Mathlib.Algebra.BigOperators.Fin
public import Mathlib.Logic.Equiv.Fin.Basic

@[expose] public section

noncomputable section

open scoped BigOperators

namespace Cert.ForwardMath

open Idealize.ShloMosaic

theorem exp_nonneg (x : EReal) : 0 ≤ Ideal.exp x := by
  induction x with
  | bot => exact le_rfl
  | top => exact le_top
  | coe r => exact EReal.coe_nonneg.mpr (Real.exp_pos r).le

theorem exp_mono {x y : EReal} (h : x ≤ y) : Ideal.exp x ≤ Ideal.exp y := by
  induction y with
  | bot => rw [le_bot_iff.mp h]
  | top => exact le_top
  | coe s =>
    induction x with
    | bot => exact exp_nonneg _
    | top => exact absurd h (by simp)
    | coe r => exact EReal.coe_le_coe_iff.mpr (Real.exp_le_exp.mpr (EReal.coe_le_coe_iff.mp h))

theorem exp_mul {a b c : EReal} (h1 : a ≤ b) (h2 : b ≤ c) :
    Ideal.exp (a - b) * Ideal.exp (b - c) = Ideal.exp (a - c) := by
  have e0 : Ideal.exp ⊥ = 0 := rfl
  induction c with
  | top => rw [EReal.sub_top, EReal.sub_top, e0, mul_zero]
  | bot =>
    have hb := le_bot_iff.mp h2
    subst hb
    have ha := le_bot_iff.mp h1
    subst ha
    rw [EReal.bot_sub, e0, mul_zero]
  | coe z =>
    induction b with
    | top => exact absurd h2 (by simp)
    | bot =>
      have ha := le_bot_iff.mp h1
      subst ha
      rw [EReal.bot_sub, EReal.bot_sub, e0, mul_zero]
    | coe y =>
      induction a with
      | top => exact absurd h1 (by simp)
      | bot => rw [EReal.bot_sub, EReal.bot_sub, e0, zero_mul]
      | coe x =>
        show ((Real.exp (x - y) : ℝ) : EReal) * ((Real.exp (y - z) : ℝ) : EReal) = ((Real.exp (x - z) : ℝ) : EReal)
        rw [← EReal.coe_mul, ← Real.exp_add]
        congr 2
        ring

theorem sum_exp_nonneg {ι : Type} (s : Finset ι) (f : ι → EReal) : 0 ≤ ∑ i ∈ s, Ideal.exp (f i) :=
  Finset.sum_nonneg fun i _ => exp_nonneg _

theorem sum_mul_of_nonneg {ι : Type} [DecidableEq ι] (s : Finset ι) (f : ι → EReal) (hf : ∀ i, 0 ≤ f i) (c : EReal) :
    (∑ i ∈ s, f i) * c = ∑ i ∈ s, f i * c := by
  induction s using Finset.induction_on with
  | empty => simp
  | insert a s ha ih =>
    rw [Finset.sum_insert ha, Finset.sum_insert ha, EReal.right_distrib_of_nonneg (hf a) (Finset.sum_nonneg fun i _ => hf i), ih]

/-- A sum of exponentials below `M`, rescaled to a larger `M'`. -/
theorem sum_exp_rescale {ι : Type} [DecidableEq ι] (s : Finset ι) (f : ι → EReal) (M M' : EReal) (h : ∀ i ∈ s, f i ≤ M) (hM : M ≤ M') :
    (∑ i ∈ s, Ideal.exp (f i - M)) * Ideal.exp (M - M') = ∑ i ∈ s, Ideal.exp (f i - M') := by
  rw [sum_mul_of_nonneg s _ (fun i => exp_nonneg _)]
  exact Finset.sum_congr rfl fun i hi => exp_mul (h i hi) hM

/-- The running maximum of the first `n` entries. -/
def mS (l : ℕ → EReal) (n : ℕ) : EReal := (Finset.range n).sup l

/-- The running sum of exponentials of the first `n` entries. -/
def sS (l : ℕ → EReal) (n : ℕ) : EReal := ∑ u ∈ Finset.range n, Ideal.exp (l u - mS l n)

theorem mS_zero (l : ℕ → EReal) : mS l 0 = ⊥ := rfl
theorem sS_zero (l : ℕ → EReal) : sS l 0 = 0 := rfl

theorem mS_succ (l : ℕ → EReal) (n : ℕ) : mS l (n + 1) = max (mS l n) (l n) := by
  rw [mS, Finset.range_add_one, Finset.sup_insert, max_comm]; rfl

theorem mS_four (l : ℕ → EReal) (n : ℕ) :
    max (max (max (max (mS l n) (l n)) (l (n + 1))) (l (n + 2))) (l (n + 3)) = mS l (n + 4) := by
  rw [mS_succ, mS_succ, mS_succ, mS_succ]

theorem mS_mono (l : ℕ → EReal) {n k : ℕ} (h : n ≤ k) : mS l n ≤ mS l k :=
  Finset.sup_mono (Finset.range_mono h)

theorem sS_four (l : ℕ → EReal) (n : ℕ) :
    sS l n * Ideal.exp (mS l n - mS l (n + 4)) + Ideal.exp (l n - mS l (n + 4)) + Ideal.exp (l (n + 1) - mS l (n + 4))
      + Ideal.exp (l (n + 2) - mS l (n + 4)) + Ideal.exp (l (n + 3) - mS l (n + 4)) = sS l (n + 4) := by
  rw [sS, sum_exp_rescale _ l (mS l n) _ (fun i hi => Finset.le_sup (f := l) hi) (mS_mono l (by omega))]
  rw [sS, Finset.sum_range_succ, Finset.sum_range_succ, Finset.sum_range_succ, Finset.sum_range_succ]

/-- The greatest entry over all columns, lane by lane. -/
theorem sup_lanes (l : ℕ → EReal) :
    (Finset.univ : Finset (Fin 128)).sup (fun k => mS (fun u => l (128 * u + k.val)) 256)
      = (Finset.univ : Finset (Fin 32768)).sup (fun v => l v.val) := by
  apply le_antisymm
  · refine Finset.sup_le fun k _ => Finset.sup_le fun u hu => ?_
    have h1 := Finset.mem_range.mp hu
    have h2 := k.isLt
    exact Finset.le_sup (f := fun v : Fin 32768 => l v.val) (b := ⟨128 * u + k.val, by omega⟩) (Finset.mem_univ _)
  · refine Finset.sup_le fun v _ => ?_
    have hv := v.isLt
    have e : l v.val = (fun u => l (128 * u + (⟨v.val % 128, by omega⟩ : Fin 128).val)) (v.val / 128) := by
      show l v.val = l (128 * (v.val / 128) + v.val % 128)
      congr 1; omega
    rw [e]
    refine le_trans (Finset.le_sup (f := fun u => l (128 * u + (⟨v.val % 128, by omega⟩ : Fin 128).val)) (Finset.mem_range.mpr (by omega : v.val / 128 < 256))) ?_
    exact Finset.le_sup (f := fun k : Fin 128 => mS (fun u => l (128 * u + k.val)) 256) (b := ⟨v.val % 128, by omega⟩) (Finset.mem_univ _)

theorem sum_lanes (g : ℕ → EReal) :
    ∑ k : Fin 128, ∑ u ∈ Finset.range 256, g (128 * u + k.val) = ∑ v : Fin 32768, g v.val := by
  rw [Finset.sum_comm, Finset.sum_range (fun u => ∑ k : Fin 128, g (128 * u + k.val)), ← Fintype.sum_prod_type']
  refine Fintype.sum_equiv (finProdFinEquiv (m := 256) (n := 128)) _ _ fun x => ?_
  show g (128 * x.1.val + x.2.val) = g (x.2.val + 128 * x.1.val)
  rw [add_comm]

/-- The lanes' sums of exponentials, brought to the row's maximum. -/
theorem sum_exp_lanes (l : ℕ → EReal) (mx : EReal) (hmx : mx = (Finset.univ : Finset (Fin 32768)).sup (fun v => l v.val)) :
    ∑ k : Fin 128, sS (fun u => l (128 * u + k.val)) 256 * Ideal.exp (mS (fun u => l (128 * u + k.val)) 256 - mx)
      = ∑ v : Fin 32768, Ideal.exp (l v.val - mx) := by
  rw [← sum_lanes (fun v => Ideal.exp (l v - mx))]
  refine Finset.sum_congr rfl fun k _ => ?_
  refine sum_exp_rescale _ (fun u => l (128 * u + k.val)) _ _ (fun i hi => Finset.le_sup (f := fun u => l (128 * u + k.val)) hi) ?_
  rw [hmx, ← sup_lanes]
  exact Finset.le_sup (f := fun k : Fin 128 => mS (fun u => l (128 * u + k.val)) 256) (Finset.mem_univ k)

/-- The greatest entry of a group of 4096 columns, lane by lane. -/
theorem sup_group (p : ℕ → EReal) (g : ℕ) :
    (Finset.univ : Finset (Fin 128)).sup (fun k => (Finset.Ico (32 * g) (32 * g + 32)).sup fun u => p (128 * u + k.val))
      = (Finset.univ : Finset (Fin 4096)).sup (fun v => p (4096 * g + v.val)) := by
  apply le_antisymm
  · refine Finset.sup_le fun k _ => Finset.sup_le fun u hu => ?_
    have h1 := Finset.mem_Ico.mp hu
    have h2 := k.isLt
    have e : p (128 * u + k.val) = p (4096 * g + (⟨128 * (u - 32 * g) + k.val, by omega⟩ : Fin 4096).val) := by
      congr 1; show 128 * u + k.val = 4096 * g + (128 * (u - 32 * g) + k.val); omega
    rw [e]
    exact Finset.le_sup (f := fun v : Fin 4096 => p (4096 * g + v.val)) (b := ⟨128 * (u - 32 * g) + k.val, by omega⟩) (Finset.mem_univ _)
  · refine Finset.sup_le fun v _ => ?_
    have hv := v.isLt
    have e : p (4096 * g + v.val) = (fun u => p (128 * u + (⟨v.val % 128, by omega⟩ : Fin 128).val)) (32 * g + v.val / 128) := by
      show p (4096 * g + v.val) = p (128 * (32 * g + v.val / 128) + v.val % 128)
      congr 1; omega
    rw [e]
    refine le_trans (Finset.le_sup (f := fun u => p (128 * u + (⟨v.val % 128, by omega⟩ : Fin 128).val)) (Finset.mem_Ico.mpr ⟨by omega, by omega⟩ : 32 * g + v.val / 128 ∈ Finset.Ico (32 * g) (32 * g + 32))) ?_
    exact Finset.le_sup (f := fun k : Fin 128 => (Finset.Ico (32 * g) (32 * g + 32)).sup fun u => p (128 * u + k.val)) (b := ⟨v.val % 128, by omega⟩) (Finset.mem_univ _)

theorem select_eq (a b : BitVec 32) (x y : EReal) :
    Scalar.select (IntOp.cmpi .eq a b) x y = if a = b then x else y := by
  by_cases h : a = b
  · subst h; simp [IntOp.cmpi, Scalar.select]
  · have hb : (a == b) = false := by simpa using h
    simp [IntOp.cmpi, Scalar.select, h, hb]

/-- The body's comparison of a lane with the label's word, taken relative to the tile and the slice. -/
theorem select_hit (n c k : ℕ) (w : BitVec 32) (hb : 512 * n + c + k < 2 ^ 32) (x y : EReal) :
    Scalar.select (IntOp.cmpi .eq (BitVec.ofNat 32 k) (IntOp.subi (IntOp.subi w (Scalar.muli (BitVec.ofNat 32 n) 512#32)) (BitVec.ofNat 32 c))) x y
      = if 512 * n + c + k = w.toNat then x else y := by
  rw [select_eq]
  have : (BitVec.ofNat 32 k = IntOp.subi (IntOp.subi w (Scalar.muli (BitVec.ofNat 32 n) 512#32)) (BitVec.ofNat 32 c)) ↔ 512 * n + c + k = w.toNat := by
    show BitVec.ofNat 32 k = w - BitVec.ofNat 32 n * 512#32 - BitVec.ofNat 32 c ↔ _
    rw [BitVec.eq_sub_iff_add_eq, BitVec.eq_sub_iff_add_eq]
    have e : BitVec.ofNat 32 k + BitVec.ofNat 32 c + BitVec.ofNat 32 n * 512#32 = BitVec.ofNat 32 (512 * n + c + k) := by
      rw [show 512 * n + c + k = k + c + n * 512 by ring, BitVec.ofNat_add, BitVec.ofNat_add, BitVec.ofNat_mul]
    rw [e]
    constructor
    · intro h
      rw [← h, BitVec.toNat_ofNat, Nat.mod_eq_of_lt hb]
    · intro h
      apply BitVec.eq_of_toNat_eq
      rw [BitVec.toNat_ofNat, Nat.mod_eq_of_lt hb, h]
  simp only [this]

/-- Distance from zero. -/
def mag (x : EReal) : EReal := max x (-x)

theorem mag_of_nonneg {x : EReal} (h : 0 ≤ x) : mag x = x := by
  refine max_eq_left (le_trans ?_ h)
  simpa using EReal.neg_le_neg_iff.mpr h

theorem mag_nonneg (x : EReal) : 0 ≤ mag x := by
  rcases le_total 0 x with h | h
  · exact le_max_of_le_left h
  · refine le_max_of_le_right ?_
    simpa using EReal.neg_le_neg_iff.mpr h

theorem mag_bot : mag ⊥ = ⊤ := by simp [mag]

theorem exp_sub_real {x : EReal} {z : ℝ} (h : x ≤ z) : ∃ r : ℝ, 0 ≤ r ∧ Ideal.exp (x - z) = (r : EReal) := by
  induction x with
  | bot => exact ⟨0, le_rfl, by rw [EReal.bot_sub]; rfl⟩
  | top => exact absurd h (by simp)
  | coe y => exact ⟨Real.exp (y - z), (Real.exp_pos _).le, rfl⟩

/-- A row's sum of exponentials is a positive real, or the row is degenerate and every exponential is zero. -/
theorem sumExp_cases {n : ℕ} (hn : 0 < n) (l : Fin n → EReal) (mx : EReal) (hmx : mx = Finset.univ.sup l) :
    ((∑ v, Ideal.exp (l v - mx)) = 0 ∧ ∀ x, x ≤ mx → Ideal.exp (x - mx) = 0)
      ∨ ∃ c : ℝ, 0 < c ∧ (∑ v, Ideal.exp (l v - mx)) = (c : EReal) := by
  have hle : ∀ v, l v ≤ mx := fun v => hmx ▸ Finset.le_sup (Finset.mem_univ v)
  have zero_of : (∀ x, x ≤ mx → Ideal.exp (x - mx) = 0) → (∑ v, Ideal.exp (l v - mx)) = 0 := fun h =>
    Finset.sum_eq_zero fun v _ => h _ (hle v)
  have e0 : Ideal.exp ⊥ = 0 := rfl
  cases mx with
  | top =>
    have h : ∀ x : EReal, x ≤ ⊤ → Ideal.exp (x - ⊤) = 0 := fun x _ => by rw [EReal.sub_top, e0]
    exact .inl ⟨zero_of h, h⟩
  | bot =>
    have h : ∀ x : EReal, x ≤ ⊥ → Ideal.exp (x - ⊥) = 0 := fun x hx => by rw [le_bot_iff.mp hx, EReal.bot_sub, e0]
    exact .inl ⟨zero_of h, h⟩
  | coe z =>
    right
    choose r hr0 hr using fun v => exp_sub_real (hle v)
    refine ⟨∑ v, r v, ?_, ?_⟩
    · obtain ⟨v, _, hv⟩ := Finset.exists_mem_eq_sup Finset.univ (⟨⟨0, hn⟩, Finset.mem_univ _⟩ : (Finset.univ : Finset (Fin n)).Nonempty) l
      refine Finset.sum_pos' (fun i _ => hr0 i) ⟨v, Finset.mem_univ v, ?_⟩
      have h1 := hr v
      rw [← hv, ← hmx] at h1
      have h2 : Ideal.exp ((z : EReal) - z) = ((Real.exp (z - z) : ℝ) : EReal) := rfl
      rw [h2] at h1
      rw [← EReal.coe_eq_coe_iff.mp h1]
      exact Real.exp_pos _
    · rw [Finset.sum_congr rfl fun v _ => hr v]
      exact (map_sum (⟨⟨Real.toEReal, rfl⟩, EReal.coe_add⟩ : ℝ →+ EReal) r Finset.univ).symm

/-- The two spellings of a group's maximum: equal, or one infinity each, in the degenerate row. -/
def Same (k r : EReal) : Prop := k = r ∨ (k = ⊥ ∧ r = ⊤)

variable {n : ℕ} (l : Fin n → EReal) (mx se : EReal)

theorem div_coe (x : EReal) {c : ℝ} (hc : 0 < c) : Ideal.div x (c : EReal) = x * ((c⁻¹ : ℝ) : EReal) := by
  unfold Ideal.div
  rw [if_neg (by exact_mod_cast hc.ne'), EReal.coe_inv]

theorem quot_nonneg (x : EReal) {c : ℝ} (hc : 0 < c) : 0 ≤ Ideal.div (Ideal.exp x) (c : EReal) := by
  rw [div_coe _ hc]
  exact mul_nonneg (exp_nonneg _) (EReal.coe_nonneg.mpr (inv_nonneg.mpr hc.le))

theorem quot_mono {x y : EReal} (h : x ≤ y) {c : ℝ} (hc : 0 < c) :
    Ideal.div (Ideal.exp (x - mx)) (c : EReal) ≤ Ideal.div (Ideal.exp (y - mx)) (c : EReal) := by
  rw [div_coe _ hc, div_coe _ hc]
  exact mul_le_mul_of_nonneg_right (exp_mono (EReal.sub_le_sub h le_rfl)) (EReal.coe_nonneg.mpr (inv_nonneg.mpr hc.le))

theorem quot_sup (hn : 0 < n) {c : ℝ} (hc : 0 < c) :
    Ideal.div (Ideal.exp (Finset.univ.sup l - mx)) (c : EReal) = Finset.univ.sup fun v => Ideal.div (Ideal.exp (l v - mx)) (c : EReal) := by
  obtain ⟨v, _, hv⟩ := Finset.exists_mem_eq_sup Finset.univ (⟨⟨0, hn⟩, Finset.mem_univ _⟩ : (Finset.univ : Finset (Fin n)).Nonempty) l
  apply le_antisymm
  · rw [hv]; exact Finset.le_sup (f := fun v => Ideal.div (Ideal.exp (l v - mx)) (c : EReal)) (Finset.mem_univ v)
  · exact Finset.sup_le fun u _ => quot_mono mx (Finset.le_sup (Finset.mem_univ u)) hc

/-- A group without the label. -/
theorem group_other (hn : 0 < n) (hle : ∀ v, l v ≤ mx)
    (hse : (se = 0 ∧ ∀ x, x ≤ mx → Ideal.exp (x - mx) = 0) ∨ ∃ c : ℝ, 0 < c ∧ se = (c : EReal)) :
    Same (Ideal.div (Ideal.exp (Finset.univ.sup l - mx)) se)
      (Finset.univ.sup fun v => mag (Ideal.div (Ideal.exp (l v - mx)) se - 0)) := by
  rcases hse with ⟨h0, hx⟩ | ⟨c, hc, rfl⟩
  · right
    have hd : ∀ x, x ≤ mx → Ideal.div (Ideal.exp (x - mx)) se = ⊥ := fun x h => by
      rw [hx x h, h0]; simp [Ideal.div]
    refine ⟨hd _ (Finset.sup_le fun v _ => hle v), ?_⟩
    refine top_le_iff.mp (le_trans ?_ (Finset.le_sup (Finset.mem_univ ⟨0, hn⟩)))
    rw [hd _ (hle _), EReal.bot_sub, mag_bot]
  · left
    rw [quot_sup l mx hn hc]
    refine Finset.sup_congr rfl fun v _ => ?_
    rw [sub_zero, mag_of_nonneg (quot_nonneg _ hc)]

/-- The group of the label, at `k0`. -/
theorem group_label (hn : 1 < n) (k0 : Fin n) (hle : ∀ v, l v ≤ mx)
    (hse : (se = 0 ∧ ∀ x, x ≤ mx → Ideal.exp (x - mx) = 0) ∨ ∃ c : ℝ, 0 < c ∧ se = (c : EReal)) :
    max (Ideal.div (Ideal.exp ((Finset.univ.sup fun v => if v = k0 then ⊥ else l v) - mx)) se)
        (mag (Ideal.div (Ideal.exp (l k0 - mx)) se - 1))
      = Finset.univ.sup fun v => mag (Ideal.div (Ideal.exp (l v - mx)) se - (if v = k0 then 1 else 0)) := by
  rcases hse with ⟨h0, hx⟩ | ⟨c, hc, rfl⟩
  · have hd : ∀ x, x ≤ mx → Ideal.div (Ideal.exp (x - mx)) se = ⊥ := fun x h => by
      rw [hx x h, h0]; simp [Ideal.div]
    have ht : mag (Ideal.div (Ideal.exp (l k0 - mx)) se - 1) = ⊤ := by rw [hd _ (hle _), EReal.bot_sub, mag_bot]
    rw [ht, max_eq_right le_top]
    refine (top_le_iff.mp (le_trans ?_ (Finset.le_sup (Finset.mem_univ k0)))).symm
    rw [if_pos rfl, ht]
  · rw [quot_sup _ mx (by omega) hc]
    apply le_antisymm
    · refine max_le (Finset.sup_le fun v _ => ?_) ?_
      · by_cases h : v = k0
        · obtain ⟨u, hu⟩ : ∃ u : Fin n, u ≠ k0 := by
            by_cases h0 : k0.val = 0
            · exact ⟨⟨1, hn⟩, fun e => by rw [← e] at h0; exact absurd h0 (by simp)⟩
            · exact ⟨⟨0, by omega⟩, fun e => h0 (by rw [← e])⟩
          refine le_trans ?_ (Finset.le_sup (Finset.mem_univ u))
          rw [if_pos h, if_neg hu, sub_zero, mag_of_nonneg (quot_nonneg _ hc)]
          exact quot_mono mx bot_le hc
        · refine le_trans ?_ (Finset.le_sup (Finset.mem_univ v))
          rw [if_neg h, if_neg h, sub_zero, mag_of_nonneg (quot_nonneg _ hc)]
      · refine le_trans ?_ (Finset.le_sup (Finset.mem_univ k0))
        rw [if_pos rfl]
    · refine Finset.sup_le fun v _ => ?_
      by_cases h : v = k0
      · subst h
        rw [if_pos rfl]
        exact le_max_right _ _
      · refine le_trans ?_ (le_max_left _ _)
        refine le_trans ?_ (Finset.le_sup (Finset.mem_univ v))
        rw [if_neg h, if_neg h, sub_zero, mag_of_nonneg (quot_nonneg _ hc)]

/-- An exponent read off a scaled maximum through its distance from zero, against one read off it as it is. -/
theorem expo_same (f : EReal → EReal) {k r : EReal} (h : Same k r) (hr : 0 ≤ r) {c : ℝ} (hc : 0 < c) :
    (if k * (c : EReal) = 0 then 0 else f (mag (k * (c : EReal)))) = (if r = 0 then 0 else f (r * (c : EReal))) := by
  have hc' : (0 : EReal) < (c : EReal) := by exact_mod_cast hc
  have pos : 0 ≤ r * (c : EReal) := mul_nonneg hr hc'.le
  rcases h with rfl | ⟨rfl, rfl⟩
  · rw [mag_of_nonneg pos]
    by_cases h0 : k = 0
    · rw [if_pos h0, if_pos (by rw [h0, zero_mul])]
    · rw [if_neg h0, if_neg (mul_ne_zero h0 hc'.ne')]
  · rw [EReal.bot_mul_coe_of_pos hc, EReal.top_mul_coe_of_pos hc, mag_bot, if_neg (by simp), if_neg (by simp)]

end Cert.ForwardMath

end
-- ==== Proof.ForwardPay.lean ====
/- The forward kernel's chunk payloads at an index, over the extended reals (hand-written, untrusted). -/
module

public import proofs.«01_k».proof.Proof.Gen.ForwardIdeal.Skeleton
public import proofs.«01_k».proof.Proof.ForwardMath

@[expose] public section

set_option maxRecDepth 16384

noncomputable section

open scoped BigOperators

namespace Cert.ForwardIdeal.Hand

open Cert.ForwardIdeal Cert.ForwardIdeal.Gen Cert.ForwardMath Idealize.ShloMosaic Idealize.ShloMosaic.TcCoe Idealize.SL.Sem

/-- The logits of a chunk of rows. -/
def chunkLg (h : Vec Ideal S256x2880 .fp8e4m3) (w : Vec Ideal S512x2880 .fp8e4m3) (hs : Vec Ideal S256x1 .f32) (ws : Vec Ideal S1x512 .f32) :
    FVec Ideal S256x512 .f32 := k0_pay19 h w hs ws

def chunkM (lg : FVec Ideal S256x512 .f32) (m : Vec Ideal S256x128 .f32) : FVec Ideal S256x128 .f32 := k0_pay33 (k0_pay30 lg m)

def chunkS (lg : FVec Ideal S256x512 .f32) (m s : Vec Ideal S256x128 .f32) : FVec Ideal S256x128 .f32 := k0_pay34 lg m (k0_pay30 lg m) s

def chunkG (n : ℕ) (lg : FVec Ideal S256x512 .f32) (lab : Vec Ideal S256x1 .i32) (gm : Vec Ideal S256x128 .f32) : FVec Ideal S256x128 .f32 :=
  k0_pay35 (k0_pay31 lg (k0_pay20 (F := Ideal) lab) (Scalar.muli (BitVec.ofNat 32 n) 512#32) gm)

def chunkL (n : ℕ) (lg : FVec Ideal S256x512 .f32) (lab : Vec Ideal S256x1 .i32) (ll : Vec Ideal S256x128 .f32) : FVec Ideal S256x128 .f32 :=
  k0_pay36 (k0_pay32 lg (k0_pay20 (F := Ideal) lab) (Scalar.muli (BitVec.ofNat 32 n) 512#32) ll)

theorem neg_inf : Ideal.ofBits .f32 0xFF800000#32 = ⊥ := by
  simp [Ideal.ofBits, Ideal.ieee]

abbrev col0 (k : Fin 128) : Fin 512 := ⟨k.val, by omega⟩
abbrev col (c : ℕ) (k : Fin 128) (hc : c ≤ 384) : Fin 512 := ⟨c + k.val, by omega⟩

theorem chunkLg_apply (h : Vec Ideal S256x2880 .fp8e4m3) (w : Vec Ideal S512x2880 .fp8e4m3) (hs : Vec Ideal S256x1 .f32) (ws : Vec Ideal S1x512 .f32)
    (r : Fin 256) (k : Fin 512) :
    chunkLg h w hs ws (ix2 r k) = (∑ d : Fin 2880, h (ix2 r d) * w (ix2 k d)) * hs (ix2 r 0) * ws (ix2 0 k) := by
  unfold chunkLg
  pointwise [k0_pay19]

theorem chunkM_apply (lg : FVec Ideal S256x512 .f32) (m : Vec Ideal S256x128 .f32) (r : Fin 256) (k : Fin 128) :
    chunkM lg m (ix2 r k) = max (max (max (max (m (ix2 r k)) (lg (ix2 r (col0 k)))) (lg (ix2 r (col 128 k (by omega)))))
      (lg (ix2 r (col 256 k (by omega))))) (lg (ix2 r (col 384 k (by omega)))) := by
  unfold chunkM
  pointwise [k0_pay33, k0_pay30, k0_pay22, k0_pay24, k0_pay26, k0_pay28]

theorem chunkS_apply (lg : FVec Ideal S256x512 .f32) (m s : Vec Ideal S256x128 .f32) (r : Fin 256) (k : Fin 128) :
    chunkS lg m s (ix2 r k) = s (ix2 r k) * Ideal.exp (m (ix2 r k) - chunkM lg m (ix2 r k))
        + Ideal.exp (lg (ix2 r (col0 k)) - chunkM lg m (ix2 r k))
        + Ideal.exp (lg (ix2 r (col 128 k (by omega))) - chunkM lg m (ix2 r k))
        + Ideal.exp (lg (ix2 r (col 256 k (by omega))) - chunkM lg m (ix2 r k))
        + Ideal.exp (lg (ix2 r (col 384 k (by omega))) - chunkM lg m (ix2 r k)) := by
  have e : k0_pay30 (F := Ideal) lg m (ix2 r k) = chunkM lg m (ix2 r k) := by unfold chunkM; pointwise [k0_pay33]
  unfold chunkS
  pointwise [k0_pay34]
  simp only [e]

theorem chunkG_apply (n : ℕ) (hn : n < 64) (lg : FVec Ideal S256x512 .f32) (lab : Vec Ideal S256x1 .i32) (gm : Vec Ideal S256x128 .f32) (r : Fin 256) (k : Fin 128) :
    chunkG n lg lab gm (ix2 r k)
      = max (max (max (max (gm (ix2 r k)) (if 512 * n + k.val = (lab (ix2 r 0)).toNat then ⊥ else lg (ix2 r (col0 k))))
          (if 512 * n + 128 + k.val = (lab (ix2 r 0)).toNat then ⊥ else lg (ix2 r (col 128 k (by omega)))))
          (if 512 * n + 256 + k.val = (lab (ix2 r 0)).toNat then ⊥ else lg (ix2 r (col 256 k (by omega)))))
          (if 512 * n + 384 + k.val = (lab (ix2 r 0)).toNat then ⊥ else lg (ix2 r (col 384 k (by omega)))) := by
  have hk := k.isLt
  unfold chunkG
  pointwise [k0_pay35, k0_pay31, k0_pay20, k0_pay21, k0_pay22, k0_pay24, k0_pay26, k0_pay28, k0_pay23, k0_pay25, k0_pay27, k0_pay29]
  rw [select_hit n 0 k.val _ (by omega), select_hit n 128 k.val _ (by omega), select_hit n 256 k.val _ (by omega), select_hit n 384 k.val _ (by omega)]
  simp only [add_zero, neg_inf]

theorem chunkL_apply (n : ℕ) (hn : n < 64) (lg : FVec Ideal S256x512 .f32) (lab : Vec Ideal S256x1 .i32) (ll : Vec Ideal S256x128 .f32) (r : Fin 256) (k : Fin 128) :
    chunkL n lg lab ll (ix2 r k)
      = (if 512 * n + 384 + k.val = (lab (ix2 r 0)).toNat then lg (ix2 r (col 384 k (by omega)))
        else if 512 * n + 256 + k.val = (lab (ix2 r 0)).toNat then lg (ix2 r (col 256 k (by omega)))
        else if 512 * n + 128 + k.val = (lab (ix2 r 0)).toNat then lg (ix2 r (col 128 k (by omega)))
        else if 512 * n + k.val = (lab (ix2 r 0)).toNat then lg (ix2 r (col0 k)) else ll (ix2 r k)) := by
  have hk := k.isLt
  unfold chunkL
  pointwise [k0_pay36, k0_pay32, k0_pay20, k0_pay21, k0_pay22, k0_pay24, k0_pay26, k0_pay28, k0_pay23, k0_pay25, k0_pay27, k0_pay29]
  rw [select_hit n 0 k.val _ (by omega), select_hit n 128 k.val _ (by omega), select_hit n 256 k.val _ (by omega), select_hit n 384 k.val _ (by omega)]
  simp only [add_zero, neg_inf]

end Cert.ForwardIdeal.Hand

end
-- ==== Proof.ForwardBlock.lean ====
/- What one grid point of the forward kernel stores, as functions of its input blocks, over the extended reals (hand-written, untrusted). -/
module

public import proofs.«01_k».proof.Proof.Gen.ForwardIdeal.Value
public import proofs.«01_k».proof.Proof.ForwardPay
public import Idealize.ShloMosaic.Lib.Pipeline.ReadBack
public import Idealize.ShloMosaic.Lib.Tactic

@[expose] public section

set_option maxRecDepth 16384

noncomputable section

open scoped BigOperators

namespace Cert.ForwardIdeal.Hand

open Cert.ForwardIdeal Cert.ForwardIdeal.Gen Cert.ForwardMath Idealize.ShloMosaic Idealize.ShloMosaic.TcCoe Idealize.SL.Sem

/-- Rows `o` to `o + 255` of a block of height 1536 fit. -/
theorem fit {n : ℕ} (o : ℕ) (h : o + 256 ≤ 1536) :
    ∀ a, ![o, 0] a + (⟨2, ![256, n]⟩ : Shape).size a ≤ (⟨2, ![1536, n]⟩ : Shape).size a := fun a =>
  match a with
  | ⟨0, _⟩ => h
  | ⟨1, _⟩ => by show 0 + n ≤ n; omega

/-- Six stores of 256 rows each, last first. -/
abbrev six {n : ℕ} {e : EltTy} (w : (o : ℕ) → o + 256 ≤ 1536 → ((⟨2, ![256, n]⟩ : Shape).Idx → Elt Ideal e)) :
    List (View.Piece (Elt Ideal) (⟨2, ![1536, n]⟩ : Shape) e) :=
  [⟨Rect.unit (s := ⟨2, ![1536, n]⟩) ![1280, 0] (⟨2, ![256, n]⟩ : Shape).size (fit 1280 (by omega)), w 1280 (by omega)⟩,
   ⟨Rect.unit (s := ⟨2, ![1536, n]⟩) ![1024, 0] (⟨2, ![256, n]⟩ : Shape).size (fit 1024 (by omega)), w 1024 (by omega)⟩,
   ⟨Rect.unit (s := ⟨2, ![1536, n]⟩) ![768, 0] (⟨2, ![256, n]⟩ : Shape).size (fit 768 (by omega)), w 768 (by omega)⟩,
   ⟨Rect.unit (s := ⟨2, ![1536, n]⟩) ![512, 0] (⟨2, ![256, n]⟩ : Shape).size (fit 512 (by omega)), w 512 (by omega)⟩,
   ⟨Rect.unit (s := ⟨2, ![1536, n]⟩) ![256, 0] (⟨2, ![256, n]⟩ : Shape).size (fit 256 (by omega)), w 256 (by omega)⟩,
   ⟨Rect.unit (s := ⟨2, ![1536, n]⟩) ![0, 0] (⟨2, ![256, n]⟩ : Shape).size (fit 0 (by omega)), w 0 (by omega)⟩]

/-- Six stores whose payloads are the six row blocks of `G` leave `G`, whatever was stored before. -/
theorem canon_six {n : ℕ} {e : EltTy} (w : (o : ℕ) → o + 256 ≤ 1536 → ((⟨2, ![256, n]⟩ : Shape).Idx → Elt Ideal e))
    (L : List (View.Piece (Elt Ideal) (⟨2, ![1536, n]⟩ : Shape) e)) (G : (⟨2, ![1536, n]⟩ : Shape).Idx → Elt Ideal e)
    (h : ∀ o hb (r : Fin 256) (k : Fin n) (hr : o + r.val < 1536), w o hb (ix2 r k) = G (ix2 ⟨o + r.val, hr⟩ k)) :
    View.canon (six w ++ L) = G := by
  have key : ∀ (o : ℕ) (hb : o + 256 ≤ 1536) (x : (⟨2, ![256, n]⟩ : Shape).Idx),
      w o hb x = G ((Rect.unit (s := ⟨2, ![1536, n]⟩) ![o, 0] (⟨2, ![256, n]⟩ : Shape).size (fit o hb)).emb x) := by
    intro o hb x
    obtain ⟨r, k, rfl⟩ : ∃ (r : Fin 256) (k : Fin n), x = ix2 r k := ⟨x 0, x 1, eq_ix2 x⟩
    have hr := r.isLt
    rw [h o hb r k (by omega)]
    congr 1
    funext a; apply Fin.ext
    match a with
    | ⟨0, _⟩ => show o + r.val = o + 1 * r.val; omega
    | ⟨1, _⟩ => show k.val = 0 + 1 * k.val; omega
  funext y
  refine View.canon_append_of_piecesOf G L (six w) (show View.PiecesOf G (six w) from ⟨key _ _, key _ _, key _ _, key _ _, key _ _, key _ _, trivial⟩) y ?_
  have hy0 : (y 0).val < 1536 := (y 0).isLt
  have hy1 : (y 1).val < n := (y 1).isLt
  have mem : ∀ (o : ℕ) (hb : o + 256 ≤ 1536), o ≤ (y 0).val → (y 0).val < o + 256 →
      y ∈ (Rect.unit (s := ⟨2, ![1536, n]⟩) ![o, 0] (⟨2, ![256, n]⟩ : Shape).size (fit o hb)).set := by
    intro o hb h1 h2
    rw [Rect.mem_set_unit]
    intro a
    match a with
    | ⟨0, _⟩ => exact ⟨h1, h2⟩
    | ⟨1, _⟩ => exact ⟨Nat.zero_le _, by show (y 1).val < 0 + n; omega⟩
  rcases Nat.lt_or_ge (y 0).val 256 with c0 | c0
  · exact ⟨_, .tail _ (.tail _ (.tail _ (.tail _ (.tail _ (.head _))))), mem 0 (by omega) (by omega) (by omega)⟩
  rcases Nat.lt_or_ge (y 0).val 512 with c1 | c1
  · exact ⟨_, .tail _ (.tail _ (.tail _ (.tail _ (.head _)))), mem 256 (by omega) (by omega) (by omega)⟩
  rcases Nat.lt_or_ge (y 0).val 768 with c2 | c2
  · exact ⟨_, .tail _ (.tail _ (.tail _ (.head _))), mem 512 (by omega) (by omega) (by omega)⟩
  rcases Nat.lt_or_ge (y 0).val 1024 with c3 | c3
  · exact ⟨_, .tail _ (.tail _ (.head _)), mem 768 (by omega) (by omega) (by omega)⟩
  rcases Nat.lt_or_ge (y 0).val 1280 with c4 | c4
  · exact ⟨_, .tail _ (.head _), mem 1024 (by omega) (by omega) (by omega)⟩
  · exact ⟨_, .head _, mem 1280 (by omega) (by omega) (by omega)⟩

/-- The rows of a block of height 1536 from row `o`. -/
def rowsAt {n : ℕ} {e : EltTy} (X : Vec Ideal ⟨2, ![1536, n]⟩ e) (o : ℕ) (h : o + 256 ≤ 1536) : Vec Ideal ⟨2, ![256, n]⟩ e :=
  View.ld X (Rect.unit (s := ⟨2, ![1536, n]⟩) ![o, 0] (⟨2, ![256, n]⟩ : Shape).size (fit o h))

theorem rowsAt_apply {n : ℕ} {e : EltTy} (X : Vec Ideal ⟨2, ![1536, n]⟩ e) (o : ℕ) (h : o + 256 ≤ 1536) (r : Fin 256) (k : Fin n) (hr : o + r.val < 1536) :
    rowsAt X o h (ix2 r k) = X (ix2 ⟨o + r.val, hr⟩ k) := by
  show X _ = X _
  congr 1
  funext a; apply Fin.ext
  match a with
  | ⟨0, _⟩ => show o + 1 * r.val = o + r.val; omega
  | ⟨1, _⟩ => show 0 + 1 * k.val = k.val; omega

variable (x0 : Vec Ideal S1536x2880 .fp8e4m3) (x1 : Vec Ideal S1536x1 .f32) (x2 : Vec Ideal S512x2880 .fp8e4m3) (x3 : Vec Ideal S1x512 .f32)
  (x4 : Vec Ideal S1536x1 .i32) (m s g l : Vec Ideal S1536x128 .f32)

/-- A tile's logits. -/
def lgOf : Vec Ideal S1536x512 .f32 := fun j =>
  (∑ d : Fin 2880, x0 (ix2 (j 0) d) * x2 (ix2 (j 1) d)) * x1 (ix2 (j 0) 0) * x3 (ix2 0 (j 1))

/-- The running maximum after a tile with logits `L`. -/
def mOf (L : Vec Ideal S1536x512 .f32) : Vec Ideal S1536x128 .f32 := fun j =>
  max (max (max (max (m j) (L (ix2 (j 0) (col0 (j 1))))) (L (ix2 (j 0) (col 128 (j 1) (by omega)))))
    (L (ix2 (j 0) (col 256 (j 1) (by omega))))) (L (ix2 (j 0) (col 384 (j 1) (by omega))))

/-- The running sum of exponentials. -/
def sOf (L : Vec Ideal S1536x512 .f32) : Vec Ideal S1536x128 .f32 := fun j =>
  s j * Ideal.exp (m j - mOf m L j) + Ideal.exp (L (ix2 (j 0) (col0 (j 1))) - mOf m L j)
    + Ideal.exp (L (ix2 (j 0) (col 128 (j 1) (by omega))) - mOf m L j)
    + Ideal.exp (L (ix2 (j 0) (col 256 (j 1) (by omega))) - mOf m L j)
    + Ideal.exp (L (ix2 (j 0) (col 384 (j 1) (by omega))) - mOf m L j)

/-- The running maximum of the group, the label left out. -/
def gOf (n : ℕ) (L : Vec Ideal S1536x512 .f32) : Vec Ideal S1536x128 .f32 := fun j =>
  max (max (max (max (g j) (if 512 * n + (j 1).val = (x4 (ix2 (j 0) 0)).toNat then ⊥ else L (ix2 (j 0) (col0 (j 1)))))
    (if 512 * n + 128 + (j 1).val = (x4 (ix2 (j 0) 0)).toNat then ⊥ else L (ix2 (j 0) (col 128 (j 1) (by omega)))))
    (if 512 * n + 256 + (j 1).val = (x4 (ix2 (j 0) 0)).toNat then ⊥ else L (ix2 (j 0) (col 256 (j 1) (by omega)))))
    (if 512 * n + 384 + (j 1).val = (x4 (ix2 (j 0) 0)).toNat then ⊥ else L (ix2 (j 0) (col 384 (j 1) (by omega))))

/-- The label's logit, once seen. -/
def lOf (n : ℕ) (L : Vec Ideal S1536x512 .f32) : Vec Ideal S1536x128 .f32 := fun j =>
  if 512 * n + 384 + (j 1).val = (x4 (ix2 (j 0) 0)).toNat then L (ix2 (j 0) (col 384 (j 1) (by omega)))
  else if 512 * n + 256 + (j 1).val = (x4 (ix2 (j 0) 0)).toNat then L (ix2 (j 0) (col 256 (j 1) (by omega)))
  else if 512 * n + 128 + (j 1).val = (x4 (ix2 (j 0) 0)).toNat then L (ix2 (j 0) (col 128 (j 1) (by omega)))
  else if 512 * n + (j 1).val = (x4 (ix2 (j 0) 0)).toNat then L (ix2 (j 0) (col0 (j 1))) else l j

def lgRows (o : ℕ) (h : o + 256 ≤ 1536) : FVec Ideal S256x512 .f32 := chunkLg (rowsAt x0 o h) x2 (rowsAt x1 o h) x3

theorem lgRows_apply (o : ℕ) (h : o + 256 ≤ 1536) (r : Fin 256) (k : Fin 512) (hr : o + r.val < 1536) :
    lgRows x0 x1 x2 x3 o h (ix2 r k) = lgOf x0 x1 x2 x3 (ix2 ⟨o + r.val, hr⟩ k) := by
  show chunkLg _ _ _ _ _ = _
  rw [chunkLg_apply]
  simp only [rowsAt_apply _ _ _ _ _ hr]
  rfl

theorem canon_lg (L : List (View.Piece (Elt Ideal) S1536x512 .f32)) :
    View.canon (six (n := 512) (e := .f32) (fun o h => lgRows x0 x1 x2 x3 o h) ++ L) = lgOf x0 x1 x2 x3 :=
  canon_six _ _ _ fun o hb r k hr => lgRows_apply x0 x1 x2 x3 o hb r k hr

theorem mRows (o : ℕ) (h : o + 256 ≤ 1536) (r : Fin 256) (k : Fin 128) (hr : o + r.val < 1536) :
    chunkM (lgRows x0 x1 x2 x3 o h) (rowsAt m o h) (ix2 r k) = mOf m (lgOf x0 x1 x2 x3) (ix2 ⟨o + r.val, hr⟩ k) := by
  rw [chunkM_apply]
  simp only [lgRows_apply _ _ _ _ _ _ _ _ hr, rowsAt_apply _ _ _ _ _ hr]
  rfl

theorem canon_m (L : List (View.Piece (Elt Ideal) S1536x128 .f32)) :
    View.canon (six (n := 128) (e := .f32) (fun o h => chunkM (lgRows x0 x1 x2 x3 o h) (rowsAt m o h)) ++ L) = mOf m (lgOf x0 x1 x2 x3) :=
  canon_six _ _ _ fun o hb r k hr => mRows x0 x1 x2 x3 m o hb r k hr

theorem canon_s (L : List (View.Piece (Elt Ideal) S1536x128 .f32)) :
    View.canon (six (n := 128) (e := .f32) (fun o h => chunkS (lgRows x0 x1 x2 x3 o h) (rowsAt m o h) (rowsAt s o h)) ++ L)
      = sOf m s (lgOf x0 x1 x2 x3) :=
  canon_six _ _ _ fun o hb r k hr => by
    rw [chunkS_apply]
    simp only [mRows _ _ _ _ _ _ _ _ _ hr, lgRows_apply _ _ _ _ _ _ _ _ hr, rowsAt_apply _ _ _ _ _ hr]
    rfl

theorem canon_g (n : ℕ) (hn : n < 64) (L : List (View.Piece (Elt Ideal) S1536x128 .f32)) :
    View.canon (six (n := 128) (e := .f32) (fun o h => chunkG n (lgRows x0 x1 x2 x3 o h) (rowsAt x4 o h) (rowsAt g o h)) ++ L)
      = gOf x4 g n (lgOf x0 x1 x2 x3) :=
  canon_six _ _ _ fun o hb r k hr => by
    rw [chunkG_apply n hn]
    simp only [lgRows_apply _ _ _ _ _ _ _ _ hr, rowsAt_apply _ _ _ _ _ hr]
    rfl

theorem canon_l (n : ℕ) (hn : n < 64) (L : List (View.Piece (Elt Ideal) S1536x128 .f32)) :
    View.canon (six (n := 128) (e := .f32) (fun o h => chunkL n (lgRows x0 x1 x2 x3 o h) (rowsAt x4 o h) (rowsAt l o h)) ++ L)
      = lOf x4 l n (lgOf x0 x1 x2 x3) :=
  canon_six _ _ _ fun o hb r k hr => by
    rw [chunkL_apply n hn]
    simp only [lgRows_apply _ _ _ _ _ _ _ _ hr, rowsAt_apply _ _ _ _ _ hr]
    rfl

end Cert.ForwardIdeal.Hand

end
-- ==== Proof.ForwardPoint.lean ====
/- What each case of a grid point of the forward kernel leaves in its outputs and in the carried scratch (hand-written, untrusted). -/
module

public import proofs.«01_k».proof.Proof.ForwardBlock

@[expose] public section

set_option maxRecDepth 16384

noncomputable section

open scoped BigOperators

namespace Cert.ForwardIdeal.Hand

open Cert.ForwardIdeal Cert.ForwardIdeal.Gen Cert.ForwardMath Idealize.ShloMosaic Idealize.ShloMosaic.TcCoe Idealize.SL.Sem

theorem z2 : (![0, 0] : Fin 2 → ℕ) = fun _ => 0 := by
  funext a; fin_cases a <;> rfl

theorem coord_lt (i : grid0.Coords) : (i 0).val < 64 := (i 0).isLt

/-- The lanes' own numbers. -/
abbrev lanes : IVec S1536x128 32 := iota .tc S1536x128 32 [1] iota_S1536x128_d1_w32

/-- The statistics a last point stores, from the finished scratch. -/
abbrev statsOf (m s l gx : Vec Ideal S1536x128 .f32) (lab : Vec Ideal S1536x1 .i32) : Vec Ideal S1536x128 .f32 :=
  k0_pay2 (k0_pay3 m) (k0_pay4 m s) (k0_pay7 (F := Ideal) lab) lanes
    (k0_pay13 (k0_pay6 (F := Ideal) lab) (k0_pay7 (F := Ideal) lab) (k0_pay9 m s gx) (k0_pay10 m s l) lanes 4096#32 (k0_pay11 (F := Ideal) lab) k0_pay12)

theorem pay1_congr (w : BitVec 32) {a a' : Vec Ideal S1536x128 .f32} (gx : Vec Ideal S1536x128 .f32) (ha : a = a') :
    k0_pay1 w a gx = k0_pay1 w a' gx := by subst ha; rfl

theorem pay8_congr {a a' b b' d d' : Vec Ideal S1536x128 .f32} (lab : Vec Ideal S1536x1 .i32) (ha : a = a') (hb : b = b') (hd : d = d') :
    k0_pay8 a b d lab = k0_pay8 a' b' d' lab := by subst ha hb hd; rfl

theorem stats_congr {a a' b b' d d' e e' : Vec Ideal S1536x128 .f32} (lab : Vec Ideal S1536x1 .i32) (ha : a = a') (hb : b = b') (hd : d = d') (he : e = e') :
    statsOf a b d e lab = statsOf a' b' d' e' lab := by subst ha hb hd he; rfl

theorem readCov_whole {sig : RefSig} {κ : Kind} {sp : Space} (v : View sig κ sp S1536x128 .f32) {L : List (View.Piece (Elt Ideal) S1536x128 .f32)}
    {G : Vec Ideal S1536x128 .f32} (h : View.canon L = G) :
    v.readCov L (Rect.unit ![0, 0] ![1536, 128] inb_S1536x128_S1536x128_0_0).toLoadRect = G := by
  rw [View.readCov_eq_canon', h]
  exact View.ld_unit_zero z2 inb_S1536x128_S1536x128_0_0 G

/-- A load of rows that a store of other rows does not touch. -/
theorem rows_skip {sig : RefSig} {κ : Kind} {sp : Space} (v : View sig κ sp S1536x128 .f32) (o o' : ℕ) (inb : ∀ a, (![o, 0] : Fin 2 → ℕ) a + (![256, 128] : Fin 2 → ℕ) a ≤ S1536x128.size a)
    (x : (Rect.unit (s := S1536x128) ![o, 0] ![256, 128] inb).shape.Idx → Elt Ideal .f32)
    (L : List (View.Piece (Elt Ideal) S1536x128 .f32)) (inb' : ∀ a, (![o', 0] : Fin 2 → ℕ) a + (![256, 128] : Fin 2 → ℕ) a ≤ S1536x128.size a) (h : o + 256 ≤ o' ∨ o' + 256 ≤ o) :
    v.readCov (⟨Rect.unit (s := S1536x128) ![o, 0] ![256, 128] inb, x⟩ :: L) (Rect.unit (s := S1536x128) ![o', 0] ![256, 128] inb').toLoadRect
      = v.readCov L (Rect.unit (s := S1536x128) ![o', 0] ![256, 128] inb').toLoadRect :=
  View.readCov_cons_of_disjoint v (⟨Rect.unit (s := S1536x128) ![o, 0] ![256, 128] inb, x⟩ : View.Piece (Elt Ideal) S1536x128 .f32) L
    (Rect.unit (s := S1536x128) ![o', 0] ![256, 128] inb').toLoadRect (Rect.unit_disjoint (inb := inb) (inb' := inb') 0 h)

/-- A load of rows after a fill of the whole scratch. -/
theorem rows_fill {sig : RefSig} {κ : Kind} {sp : Space} (v : View sig κ sp S1536x128 .f32) (Z : Vec Ideal S1536x128 .f32)
    (L : List (View.Piece (Elt Ideal) S1536x128 .f32)) (r : Rect S1536x128) (inb) :
    v.readCov (⟨Rect.unit (s := S1536x128) ![0, 0] ![1536, 128] inb, Z⟩ :: L) r.toLoadRect = View.ld Z r :=
  View.readCov_fill v inb Z L r (by decide)

variable (c : Dev nD) (t : Fin cfg0.N) (x0 : Vec Ideal S1536x2880 .fp8e4m3) (x1 : Vec Ideal S1536x1 .f32) (x2 : Vec Ideal S512x2880 .fp8e4m3)
  (x3 : Vec Ideal S1x512 .f32) (x4 : Vec Ideal S1536x1 .i32) (xs0 xs1 xs2 xs3 xs4 : Vec Ideal S1536x128 .f32)

theorem out0_A_5_eq (hc0) (hc1) (hc2) (hc3) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4
      = lgOf x0 x1 x2 x3 := by
  unfold out0_A_5
  rw [View.read_writes_eq_canon _ _ _ (cover0_A_5 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_lg x0 x1 x2 x3 []

theorem sout0_A_0_eq (hc0) (hc1) (hc2) (hc3) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4
      = mOf (k0_pay14 (F := Ideal)) (lgOf x0 x1 x2 x3) := by
  unfold sout0_A_0
  rw [View.read_writes_eq_canon _ _ _ (scover0_A_0 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  simp (disch := omega) only [↓rows_skip, ↓rows_fill]
  exact canon_m x0 x1 x2 x3 (k0_pay14 (F := Ideal)) [_]

theorem sout0_A_1_eq (hc0) (hc1) (hc2) (hc3) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4
      = sOf (k0_pay14 (F := Ideal)) (k0_pay15 (F := Ideal)) (lgOf x0 x1 x2 x3) := by
  unfold sout0_A_1
  rw [View.read_writes_eq_canon _ _ _ (scover0_A_1 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  simp (disch := omega) only [↓rows_skip, ↓rows_fill]
  exact canon_s x0 x1 x2 x3 (k0_pay14 (F := Ideal)) (k0_pay15 (F := Ideal)) [_]

theorem sout0_A_2_eq (hc0) (hc1) (hc2) (hc3) :
    sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4
      = gOf x4 (k0_pay18 (F := Ideal)) (grid0.coords t 0).val (lgOf x0 x1 x2 x3) := by
  unfold sout0_A_2
  rw [View.read_writes_eq_canon _ _ _ (scover0_A_2 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  simp (disch := omega) only [↓rows_skip, ↓rows_fill]
  exact canon_g x0 x1 x2 x3 x4 (k0_pay18 (F := Ideal)) (grid0.coords t 0).val (coord_lt _) [_]

theorem sout0_A_3_eq (hc0) (hc1) (hc2) (hc3) :
    sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4
      = lOf x4 (k0_pay16 (F := Ideal)) (grid0.coords t 0).val (lgOf x0 x1 x2 x3) := by
  unfold sout0_A_3
  rw [View.read_writes_eq_canon _ _ _ (scover0_A_3 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  simp (disch := omega) only [↓rows_skip, ↓rows_fill]
  exact canon_l x0 x1 x2 x3 x4 (k0_pay16 (F := Ideal)) (grid0.coords t 0).val (coord_lt _) [_]

theorem sout0_A_4_eq (hc0) (hc1) (hc2) (hc3) :
    sout0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4
      = k0_pay17 (F := Ideal) := by
  unfold sout0_A_4
  rw [View.read_writes_eq_canon _ _ _ (scover0_A_4 c _ _ _ _ _ _ _ _ _ _ _ _ _ _ _ _ _ _ _ _ _ _ _ _ _ _ _ _ _ _ _ _ _ _ _ _)]
  unfold kernelRun0_A
  dsimp only
  sl_unfold_words
  skip
  rw [View.canon_unit_zero z2]

theorem out0_B_5_eq (hc0) (hc1) (hc2) (hc3) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = lgOf x0 x1 x2 x3 := by
  unfold out0_B_5
  rw [View.read_writes_eq_canon _ _ _ (cover0_B_5 c _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_lg x0 x1 x2 x3 []

theorem sout0_B_0_eq (hc0) (hc1) (hc2) (hc3) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = mOf xs0 (lgOf x0 x1 x2 x3) := by
  unfold sout0_B_0
  rw [View.read_writes_eq_canon _ _ _ (scover0_B_0 c _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_m x0 x1 x2 x3 xs0 []

theorem sout0_B_1_eq (hc0) (hc1) (hc2) (hc3) :
    sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = sOf xs0 xs1 (lgOf x0 x1 x2 x3) := by
  unfold sout0_B_1
  rw [View.read_writes_eq_canon _ _ _ (scover0_B_1 c _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_s x0 x1 x2 x3 xs0 xs1 []

theorem sout0_B_2_eq (hc0) (hc1) (hc2) (hc3) :
    sout0_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = gOf x4 xs2 (grid0.coords t 0).val (lgOf x0 x1 x2 x3) := by
  unfold sout0_B_2
  rw [View.read_writes_eq_canon _ _ _ (scover0_B_2 c _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_g x0 x1 x2 x3 x4 xs2 (grid0.coords t 0).val (coord_lt _) []

theorem sout0_B_3_eq (hc0) (hc1) (hc2) (hc3) :
    sout0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = lOf x4 xs3 (grid0.coords t 0).val (lgOf x0 x1 x2 x3) := by
  unfold sout0_B_3
  rw [View.read_writes_eq_canon _ _ _ (scover0_B_3 c _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_l x0 x1 x2 x3 x4 xs3 (grid0.coords t 0).val (coord_lt _) []

theorem sout0_B_4_eq (hc0) (hc1) (hc2) (hc3) :
    sout0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = xs4 := by
  unfold sout0_B_4
  rfl

theorem out0_C_5_eq (hc0) (hc1) (hc2) (hc3) :
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = lgOf x0 x1 x2 x3 := by
  unfold out0_C_5
  rw [View.read_writes_eq_canon _ _ _ (cover0_C_5 c _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_lg x0 x1 x2 x3 []

theorem sout0_C_0_eq (hc0) (hc1) (hc2) (hc3) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = mOf xs0 (lgOf x0 x1 x2 x3) := by
  unfold sout0_C_0
  rw [View.read_writes_eq_canon _ _ _ (scover0_C_0 c _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_m x0 x1 x2 x3 xs0 []

theorem sout0_C_1_eq (hc0) (hc1) (hc2) (hc3) :
    sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = sOf xs0 xs1 (lgOf x0 x1 x2 x3) := by
  unfold sout0_C_1
  rw [View.read_writes_eq_canon _ _ _ (scover0_C_1 c _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_s x0 x1 x2 x3 xs0 xs1 []

theorem sout0_C_2_eq (hc0) (hc1) (hc2) (hc3) :
    sout0_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = gOf x4 xs2 (grid0.coords t 0).val (lgOf x0 x1 x2 x3) := by
  unfold sout0_C_2
  rw [View.read_writes_eq_canon _ _ _ (scover0_C_2 c _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_g x0 x1 x2 x3 x4 xs2 (grid0.coords t 0).val (coord_lt _) []

theorem sout0_C_3_eq (hc0) (hc1) (hc2) (hc3) :
    sout0_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = lOf x4 xs3 (grid0.coords t 0).val (lgOf x0 x1 x2 x3) := by
  unfold sout0_C_3
  rw [View.read_writes_eq_canon _ _ _ (scover0_C_3 c _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_l x0 x1 x2 x3 x4 xs3 (grid0.coords t 0).val (coord_lt _) []

theorem sout0_C_4_eq (hc0) (hc1) (hc2) (hc3) :
    sout0_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = k0_pay1 (F := Ideal) (BitVec.ofNat 32 (grid0.coords t 0).val) (gOf x4 xs2 (grid0.coords t 0).val (lgOf x0 x1 x2 x3)) xs4 := by
  unfold sout0_C_4
  rw [View.read_writes_eq_canon _ _ _ (scover0_C_4 c _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  rw [View.canon_unit_zero z2]
  exact pay1_congr _ xs4 (readCov_whole _ (canon_g x0 x1 x2 x3 x4 xs2 (grid0.coords t 0).val (coord_lt _) []))

theorem out0_D_5_eq (hc0) (hc1) (hc2) (hc3) :
    out0_D_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs3 xs4
      = lgOf x0 x1 x2 x3 := by
  unfold out0_D_5
  rw [View.read_writes_eq_canon _ _ _ (cover0_D_5 c _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_lg x0 x1 x2 x3 []

theorem sout0_D_0_eq (hc0) (hc1) (hc2) (hc3) :
    sout0_D_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs3 xs4
      = mOf xs0 (lgOf x0 x1 x2 x3) := by
  unfold sout0_D_0
  rw [View.read_writes_eq_canon _ _ _ (scover0_D_0 c _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_m x0 x1 x2 x3 xs0 []

theorem sout0_D_1_eq (hc0) (hc1) (hc2) (hc3) :
    sout0_D_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs3 xs4
      = sOf xs0 xs1 (lgOf x0 x1 x2 x3) := by
  unfold sout0_D_1
  rw [View.read_writes_eq_canon _ _ _ (scover0_D_1 c _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_s x0 x1 x2 x3 xs0 xs1 []

theorem sout0_D_2_eq (hc0) (hc1) (hc2) (hc3) :
    sout0_D_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs3 xs4
      = gOf x4 (k0_pay18 (F := Ideal)) (grid0.coords t 0).val (lgOf x0 x1 x2 x3) := by
  unfold sout0_D_2
  rw [View.read_writes_eq_canon _ _ _ (scover0_D_2 c _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  simp (disch := omega) only [↓rows_skip, ↓rows_fill]
  exact canon_g x0 x1 x2 x3 x4 (k0_pay18 (F := Ideal)) (grid0.coords t 0).val (coord_lt _) [_]

theorem sout0_D_3_eq (hc0) (hc1) (hc2) (hc3) :
    sout0_D_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs3 xs4
      = lOf x4 xs3 (grid0.coords t 0).val (lgOf x0 x1 x2 x3) := by
  unfold sout0_D_3
  rw [View.read_writes_eq_canon _ _ _ (scover0_D_3 c _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_l x0 x1 x2 x3 x4 xs3 (grid0.coords t 0).val (coord_lt _) []

theorem sout0_D_4_eq (hc0) (hc1) (hc2) (hc3) :
    sout0_D_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs3 xs4
      = xs4 := by
  unfold sout0_D_4
  rfl

theorem out0_E_5_eq (hc0) (hc1) (hc2) (hc3) :
    out0_E_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = lgOf x0 x1 x2 x3 := by
  unfold out0_E_5
  rw [View.read_writes_eq_canon _ _ _ (cover0_E_5 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_lg x0 x1 x2 x3 []

theorem sout0_E_0_eq (hc0) (hc1) (hc2) (hc3) :
    sout0_E_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = mOf xs0 (lgOf x0 x1 x2 x3) := by
  unfold sout0_E_0
  rw [View.read_writes_eq_canon _ _ _ (scover0_E_0 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_m x0 x1 x2 x3 xs0 []

theorem sout0_E_1_eq (hc0) (hc1) (hc2) (hc3) :
    sout0_E_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = sOf xs0 xs1 (lgOf x0 x1 x2 x3) := by
  unfold sout0_E_1
  rw [View.read_writes_eq_canon _ _ _ (scover0_E_1 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_s x0 x1 x2 x3 xs0 xs1 []

theorem sout0_E_2_eq (hc0) (hc1) (hc2) (hc3) :
    sout0_E_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = gOf x4 xs2 (grid0.coords t 0).val (lgOf x0 x1 x2 x3) := by
  unfold sout0_E_2
  rw [View.read_writes_eq_canon _ _ _ (scover0_E_2 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_g x0 x1 x2 x3 x4 xs2 (grid0.coords t 0).val (coord_lt _) []

theorem sout0_E_3_eq (hc0) (hc1) (hc2) (hc3) :
    sout0_E_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = lOf x4 xs3 (grid0.coords t 0).val (lgOf x0 x1 x2 x3) := by
  unfold sout0_E_3
  rw [View.read_writes_eq_canon _ _ _ (scover0_E_3 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  exact canon_l x0 x1 x2 x3 x4 xs3 (grid0.coords t 0).val (coord_lt _) []

theorem sout0_E_4_eq (hc0) (hc1) (hc2) (hc3) :
    sout0_E_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = k0_pay1 (F := Ideal) (BitVec.ofNat 32 (grid0.coords t 0).val) (gOf x4 xs2 (grid0.coords t 0).val (lgOf x0 x1 x2 x3)) xs4 := by
  unfold sout0_E_4
  rw [View.read_writes_eq_canon _ _ _ (scover0_E_4 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  rw [View.canon_unit_zero z2]
  exact pay1_congr _ xs4 (readCov_whole _ (canon_g x0 x1 x2 x3 x4 xs2 (grid0.coords t 0).val (coord_lt _) []))

theorem out0_E_6_eq (hc0) (hc1) (hc2) (hc3) :
    out0_E_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = k0_pay8 (F := Ideal) (mOf xs0 (lgOf x0 x1 x2 x3)) (sOf xs0 xs1 (lgOf x0 x1 x2 x3)) (lOf x4 xs3 (grid0.coords t 0).val (lgOf x0 x1 x2 x3)) x4 := by
  unfold out0_E_6
  rw [View.read_writes_eq_canon _ _ _ (cover0_E_6 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  rw [View.canon_unit_zero z2]
  exact pay8_congr x4 (readCov_whole _ (canon_m x0 x1 x2 x3 xs0 [])) (readCov_whole _ (canon_s x0 x1 x2 x3 xs0 xs1 [])) (readCov_whole _ (canon_l x0 x1 x2 x3 x4 xs3 (grid0.coords t 0).val (coord_lt _) []))

theorem out0_E_7_eq (hc0) (hc1) (hc2) (hc3) :
    out0_E_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc0 hc1 hc2 hc3 x0 x1 x2 x3 x4 xs0 xs1 xs2 xs3 xs4
      = statsOf (mOf xs0 (lgOf x0 x1 x2 x3)) (sOf xs0 xs1 (lgOf x0 x1 x2 x3)) (lOf x4 xs3 (grid0.coords t 0).val (lgOf x0 x1 x2 x3)) (k0_pay1 (F := Ideal) (BitVec.ofNat 32 (grid0.coords t 0).val) (gOf x4 xs2 (grid0.coords t 0).val (lgOf x0 x1 x2 x3)) xs4) x4 := by
  unfold out0_E_7
  rw [View.read_writes_eq_canon _ _ _ (cover0_E_7 c _ _ _ _ _ _ _ _ _ _ _ _ _ _ _ _ _ _ _ _ _ _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread, (hs0_3 t).read_unread, (hs0_4 t).read_unread, (Memref.isWhole_whole _).read_unread, View.ld_unit_zero (S := S512x2880) z2, View.ld_unit_zero (S := S1x512) z2, View.ld_unit_zero (S := S1536x1) z2, View.ld_unit_zero (S := S1536x128) z2]
  rw [View.canon_unit_zero z2]
  simp only [View.readCov_unit_zero (S := S1536x128) _ z2]
  exact stats_congr x4 (readCov_whole _ (canon_m x0 x1 x2 x3 xs0 [])) (readCov_whole _ (canon_s x0 x1 x2 x3 xs0 xs1 [])) (readCov_whole _ (canon_l x0 x1 x2 x3 x4 xs3 (grid0.coords t 0).val (coord_lt _) [])) (pay1_congr _ xs4 (readCov_whole _ (canon_g x0 x1 x2 x3 x4 xs2 (grid0.coords t 0).val (coord_lt _) [])))

end Cert.ForwardIdeal.Hand

end
-- ==== Proof.ForwardFinal.lean ====
/- What the last point of the forward kernel makes of the finished scratch, at an index, over the extended reals (hand-written, untrusted). -/
module

public import proofs.«01_k».proof.Proof.ForwardPoint
public import Idealize.ShloMosaic.Lib.Affine

@[expose] public section

set_option maxRecDepth 16384

noncomputable section

open scoped BigOperators

namespace Cert.ForwardIdeal.Hand

open Cert.ForwardIdeal Cert.ForwardIdeal.Gen Cert.ForwardMath Idealize.ShloMosaic Idealize.ShloMosaic.TcCoe Idealize.SL.Sem

theorem select_ite {p : Prop} [Decidable p] {b : BitVec 1} (h : b = if p then 1#1 else 0#1) (x y : EReal) :
    Scalar.select b x y = if p then x else y := by
  subst h
  by_cases hp : p
  · simp [hp, Scalar.select]
  · simp [hp, Scalar.select]

theorem fold_sup (f : Fin 128 → EReal) : Finset.fold max (Ideal.ofBits .f32 0xFF800000#32) f Finset.univ = Finset.univ.sup f := by
  rw [neg_inf]; rfl

/-- The group of a tile, as the body computes it. -/
theorem tile_group : ∀ n : Fin 64,
    Scalar.select
      (Scalar.andi
        (Scalar.cmpi CmpIPredicate.ne
          (Scalar.subi (Scalar.extui (Scalar.cmpi CmpIPredicate.sgt (BitVec.ofNat 32 n.val) 0#32))
            (Scalar.extui (Scalar.cmpi CmpIPredicate.slt (BitVec.ofNat 32 n.val) 0#32)))
          (Scalar.subi (Scalar.extui (Scalar.cmpi CmpIPredicate.sgt 8#32 0#32))
            (Scalar.extui (Scalar.cmpi CmpIPredicate.slt 8#32 0#32))))
        (Scalar.cmpi CmpIPredicate.ne (Scalar.remsi (BitVec.ofNat 32 n.val) 8#32) 0#32))
      (Scalar.subi (Scalar.divsi (BitVec.ofNat 32 n.val) 8#32) 1#32) (Scalar.divsi (BitVec.ofNat 32 n.val) 8#32) = BitVec.ofNat 32 (n.val / 8) := by
  decide +kernel

theorem lane_eq (a b : ℕ) (ha : a < 2 ^ 32) (hb : b < 2 ^ 32) : IntOp.cmpi .eq (BitVec.ofNat 32 a) (BitVec.ofNat 32 b) = if a = b then 1#1 else 0#1 := by
  by_cases h : a = b
  · subst h; simp [IntOp.cmpi]
  · have : ¬ (BitVec.ofNat 32 a = BitVec.ofNat 32 b) := fun e => h (by
      have := congrArg BitVec.toNat e
      rwa [BitVec.toNat_ofNat, BitVec.toNat_ofNat, Nat.mod_eq_of_lt ha, Nat.mod_eq_of_lt hb] at this)
    have hb : (BitVec.ofNat 32 a == BitVec.ofNat 32 b) = false := by simpa using this
    simp [IntOp.cmpi, h, hb]

theorem pay1_apply (n : ℕ) (hn : n < 64) (gm old : Vec Ideal S1536x128 .f32) (r : Fin 1536) (k : Fin 128) :
    k0_pay1 (F := Ideal) (BitVec.ofNat 32 n) gm old (ix2 r k)
      = if k.val = n / 8 then Finset.univ.sup (fun q : Fin 128 => gm (ix2 r q)) else old (ix2 r k) := by
  have hk := k.isLt
  pointwise [k0_pay1]
  rw [tile_group ⟨n, hn⟩, fold_sup]
  exact select_ite (lane_eq k.val (n / 8) (by omega) (by omega)) _ _

theorem pay3_apply (m : Vec Ideal S1536x128 .f32) (r : Fin 1536) : k0_pay3 (F := Ideal) m (ix2 r 0) = Finset.univ.sup (fun q : Fin 128 => m (ix2 r q)) := by
  pointwise [k0_pay3]
  exact fold_sup _

theorem pay4_apply (m s : Vec Ideal S1536x128 .f32) (r : Fin 1536) :
    k0_pay4 (F := Ideal) m s (ix2 r 0) = ∑ k : Fin 128, s (ix2 r k) * Ideal.exp (m (ix2 r k) - k0_pay3 (F := Ideal) m (ix2 r 0)) := by
  pointwise [k0_pay4]

theorem pay5_apply (s : Vec Ideal S1536x128 .f32) (r : Fin 1536) : k0_pay5 (F := Ideal) s (ix2 r 0) = ∑ k : Fin 128, s (ix2 r k) := by
  pointwise [k0_pay5]

theorem pay7_apply (s : Vec Ideal S1536x1 .i32) (r : Fin 1536) : k0_pay7 (F := Ideal) s (ix2 r 0) = IntOp.cmpi .sge (s (ix2 r 0)) 0#32 := by
  pointwise [k0_pay7, k0_pay6]

theorem pay14_apply (r : Fin 1536) (k : Fin 128) : k0_pay14 (F := Ideal) (ix2 r k) = ⊥ := by
  pointwise [k0_pay14]
  exact neg_inf

theorem pay15_apply (r : Fin 1536) (k : Fin 128) : k0_pay15 (F := Ideal) (ix2 r k) = 0 := by
  pointwise [k0_pay15]

theorem pay16_apply (r : Fin 1536) (k : Fin 128) : k0_pay16 (F := Ideal) (ix2 r k) = 0 := by
  pointwise [k0_pay16]

theorem pay17_apply (r : Fin 1536) (k : Fin 128) : k0_pay17 (F := Ideal) (ix2 r k) = 0 := by
  pointwise [k0_pay17]

theorem pay18_apply (r : Fin 1536) (k : Fin 128) : k0_pay18 (F := Ideal) (ix2 r k) = ⊥ := by
  pointwise [k0_pay18]
  exact neg_inf

theorem pay9_apply (m s g : Vec Ideal S1536x128 .f32) (r : Fin 1536) (k : Fin 128) :
    k0_pay9 (F := Ideal) m s g (ix2 r k) = Ideal.div (Ideal.exp (g (ix2 r k) - k0_pay3 (F := Ideal) m (ix2 r 0))) (k0_pay4 (F := Ideal) m s (ix2 r 0)) := by
  pointwise [k0_pay9]

theorem pay10_apply (m s l : Vec Ideal S1536x128 .f32) (r : Fin 1536) :
    k0_pay10 (F := Ideal) m s l (ix2 r 0)
      = mag (Ideal.div (Ideal.exp (k0_pay5 (F := Ideal) l (ix2 r 0) - k0_pay3 (F := Ideal) m (ix2 r 0))) (k0_pay4 (F := Ideal) m s (ix2 r 0)) - 1) := by
  pointwise [k0_pay10]
  rfl

theorem pay11_apply (s : Vec Ideal S1536x1 .i32) (r : Fin 1536) : k0_pay11 (F := Ideal) s (ix2 r 0) = IntOp.divsi .vector (s (ix2 r 0)) 4096#32 := by
  pointwise [k0_pay11, k0_pay6]

theorem pay6_apply (s : Vec Ideal S1536x1 .i32) (r : Fin 1536) : k0_pay6 (F := Ideal) s (ix2 r 0) = s (ix2 r 0) := by
  pointwise [k0_pay6]

/-- A label's word: none, or a column. -/
def IsLab (w : BitVec 32) : Prop := w = 0xFFFFFFFF#32 ∨ w.toNat < 32768

theorem valid_word {w : BitVec 32} (h : IsLab w) : IntOp.cmpi .sge w 0#32 = if w.toNat < 32768 then 1#1 else 0#1 := by
  rcases h with rfl | h
  · decide
  · rw [if_pos h]
    have : BitVec.sle 0#32 w = true := by
      rw [BitVec.sle_eq_decide, BitVec.toInt_eq_toNat_of_lt (by omega : 2 * w.toNat < 2 ^ 32)]
      simp
    simp [IntOp.cmpi, this]

/-- The group of a label, as the body computes it. -/
theorem label_group {w : BitVec 32} (h : w.toNat < 32768) :
    Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 4096#32 0#32))
            (Scalar.extui (Scalar.cmpi CmpIPredicate.slt 4096#32 0#32))))
        (IntOp.cmpi CmpIPredicate.ne (IntOp.remsi ArithUnit.vector w 4096#32) 0#32))
      (IntOp.subi (IntOp.divsi ArithUnit.vector w 4096#32) 1#32) (IntOp.divsi ArithUnit.vector w 4096#32) = BitVec.ofNat 32 (w.toNat / 4096) := by
  have h2 : 2 * w.toNat < 2 ^ 32 := by omega
  have hw : w.toInt = w.toNat := BitVec.toInt_eq_toNat_of_lt h2
  have hd : IntOp.divsi ArithUnit.vector w 4096#32 = BitVec.ofNat 32 (w.toNat / 4096) := by
    have hm : w.msb = false := by rw [BitVec.msb_eq_false_iff_two_mul_lt]; exact h2
    rw [IntOp.divsi, if_neg (IntOp.not_corner_of_pos (by decide)), BitVec.sdiv_eq, hm]
    show w / 4096#32 = _
    apply BitVec.eq_of_toNat_eq
    have e : (4096#32).toNat = 4096 := rfl
    rw [BitVec.toNat_udiv, e, BitVec.toNat_ofNat]
    omega
  have hc : ¬ (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 4096#32 0#32))
            (Scalar.extui (Scalar.cmpi CmpIPredicate.slt 4096#32 0#32))))
        (IntOp.cmpi CmpIPredicate.ne (IntOp.remsi ArithUnit.vector w 4096#32) 0#32) = 1#1) := by
    rw [IntOp.andi_eq_one, IntOp.cmpi_ne, IntOp.cmpi_ne]
    rintro ⟨ha, hb⟩
    by_cases h0 : w.toNat = 0
    · exact hb ((IntOp.remsi_eq_zero_iff .vector h2 4096 (by omega) (by omega)).mpr (by rw [h0]; exact dvd_zero _))
    · apply ha
      have e1 : IntOp.cmpi CmpIPredicate.sgt w 0#32 = 1#1 := IntOp.cmpi_sgt.mpr (by rw [hw]; show (0 : ℤ) < _; omega)
      have e2 : IntOp.cmpi CmpIPredicate.slt w 0#32 = 0#1 := by
        rcases BitVec.eq_zero_or_eq_one (IntOp.cmpi CmpIPredicate.slt w 0#32) with e | e
        · exact e
        · have := IntOp.cmpi_slt.mp e
          rw [hw] at this
          exact absurd (show ((w.toNat : ℕ) : ℤ) < 0 from this) (by omega)
      rw [e1, e2]
      decide
  unfold Scalar.select
  exact (if_neg hc).trans hd

/-- The factor by which a maximum is scaled to the code's range. -/
def fac : EReal := Ideal.ofBits .f32 0x37924925#32

/-- The exponent of a scaled maximum. -/
def expo (x : EReal) : EReal := Ideal.liftRound Int.floor (Ideal.div (Ideal.log x) (Ideal.log (Ideal.ofBits .f32 0x40000000#32))) + 1

/-- A lane's exponent, as the last point finds it from the lane's group maximum. -/
def laneE (w : BitVec 32) (mx se ll : EReal) (G : ℕ → EReal) (q : ℕ) : EReal :=
  if (if w.toNat < 32768 ∧ q < 8 then (if q = w.toNat / 4096 then max (Ideal.div (Ideal.exp (G q - mx)) se) (mag (Ideal.div (Ideal.exp (ll - mx)) se - 1))
      else Ideal.div (Ideal.exp (G q - mx)) se) * fac else 0) = 0 then 0
  else expo (mag (if w.toNat < 32768 ∧ q < 8 then (if q = w.toNat / 4096 then max (Ideal.div (Ideal.exp (G q - mx)) se) (mag (Ideal.div (Ideal.exp (ll - mx)) se - 1))
      else Ideal.div (Ideal.exp (G q - mx)) se) * fac else 0))

/-- A row of statistics. -/
def statRow (mx se : EReal) (ok : Prop) [Decidable ok] (E : ℕ → EReal) (k : ℕ) : EReal :=
  if 24 ≤ k ∧ k < 32 then Ideal.exp2 (E (k - 24))
  else if 16 ≤ k ∧ k < 24 then (if ok then Ideal.div (Ideal.exp2 (0 - E (k - 16))) se else 0)
  else if 8 ≤ k ∧ k < 16 then Ideal.exp2 (0 - E (k - 8))
  else if k = 0 then mx else 0

theorem ite_one {p : Prop} [Decidable p] : (if p then 1#1 else 0#1) = 1#1 ↔ p := by
  by_cases h : p <;> simp [h]

theorem and_word {p q : Prop} [Decidable p] [Decidable q] : IntOp.andi (if p then 1#1 else 0#1) (if q then 1#1 else 0#1) = if p ∧ q then 1#1 else 0#1 := by
  by_cases hp : p <;> by_cases hq : q <;> simp [hp, hq, IntOp.andi]

theorem lane_slt : ∀ k : Fin 128, IntOp.cmpi .slt (BitVec.ofNat 32 k.val) 8#32 = if k.val < 8 then 1#1 else 0#1 := by decide +kernel

theorem band (a b : ℕ) (ha : a < 128) (hb : b < 128) (k : Fin 128) :
    IntOp.andi (IntOp.cmpi .sge (BitVec.ofNat 32 k.val) (BitVec.ofNat 32 a)) (IntOp.cmpi .slt (BitVec.ofNat 32 k.val) (BitVec.ofNat 32 b))
      = if a ≤ k.val ∧ k.val < b then 1#1 else 0#1 := by
  have hk := k.isLt
  have e : ∀ n : ℕ, n < 128 → (BitVec.ofNat 32 n).toInt = (n : ℤ) := fun n hn => by
    rw [BitVec.toInt_eq_toNat_of_lt (by rw [BitVec.toNat_ofNat]; omega), BitVec.toNat_ofNat]; congr 1; omega
  have key : IntOp.andi (IntOp.cmpi .sge (BitVec.ofNat 32 k.val) (BitVec.ofNat 32 a)) (IntOp.cmpi .slt (BitVec.ofNat 32 k.val) (BitVec.ofNat 32 b)) = 1#1
      ↔ (a ≤ k.val ∧ k.val < b) := by
    rw [IntOp.andi_eq_one, IntOp.cmpi_sge, IntOp.cmpi_slt, e _ hk, e _ ha, e _ hb]; omega
  by_cases h : a ≤ k.val ∧ k.val < b
  · rw [if_pos h]; exact key.mpr h
  · rw [if_neg h]
    rcases BitVec.eq_zero_or_eq_one (IntOp.andi (IntOp.cmpi .sge (BitVec.ofNat 32 k.val) (BitVec.ofNat 32 a)) (IntOp.cmpi .slt (BitVec.ofNat 32 k.val) (BitVec.ofNat 32 b))) with e0 | e0
    · exact e0
    · exact absurd (key.mp e0) h

theorem pay13_apply (w : IVec S1536x1 32) (v : IVec S1536x1 1) (p : FVec Ideal S1536x128 .f32) (gl : FVec Ideal S1536x1 .f32) (d : IVec S1536x1 32)
    (r : Fin 1536) (k : Fin 128) (u : BitVec 32) (hu : w (ix2 r 0) = u) (hv : v (ix2 r 0) = if u.toNat < 32768 then 1#1 else 0#1)
    (hd : d (ix2 r 0) = IntOp.divsi .vector u 4096#32) (mx se ll : EReal) (G : ℕ → EReal)
    (hp : k.val < 8 → p (ix2 r k) = Ideal.div (Ideal.exp (G k.val - mx)) se) (hg : gl (ix2 r 0) = mag (Ideal.div (Ideal.exp (ll - mx)) se - 1)) :
    k0_pay13 (F := Ideal) w v p gl lanes 4096#32 d k0_pay12 (ix2 r k) = laneE u mx se ll G k.val := by
  have hk := k.isLt
  pointwise [k0_pay13, k0_pay12, lanes]
  rw [hu, hv, hd, hg, lane_slt k]
  simp only [and_word, select_ite rfl]
  by_cases h : u.toNat < 32768 ∧ k.val < 8
  · rw [label_group h.1, lane_eq k.val (u.toNat / 4096) (by omega) (by omega), and_word, hp h.2]
    simp only [select_ite rfl]
    unfold laneE
    simp only [if_pos h, h.1, and_true]
    rfl
  · unfold laneE
    simp only [if_neg h]
    rfl

theorem pay2_apply (m s : FVec Ideal S1536x1 .f32) (v : IVec S1536x1 1) (e : FVec Ideal S1536x128 .f32) (r : Fin 1536) (k : Fin 128)
    (ok : Prop) [Decidable ok] (hv : v (ix2 r 0) = if ok then 1#1 else 0#1) (E : ℕ → EReal) (hE : ∀ q : Fin 128, e (ix2 r q) = E q.val) :
    k0_pay2 (F := Ideal) m s v lanes e (ix2 r k) = statRow (m (ix2 r 0)) (s (ix2 r 0)) ok E k.val := by
  have hk := k.isLt
  pointwise [k0_pay2, lanes]
  rw [hv, band 24 32 (by omega) (by omega), band 16 24 (by omega) (by omega), band 8 16 (by omega) (by omega),
    lane_eq k.val 0 (by omega) (by omega)]
  simp only [select_ite rfl, hE]
  unfold statRow
  by_cases h1 : 24 ≤ k.val ∧ k.val < 32
  · rw [if_pos h1, if_pos h1, show (k.val + 128 - 24) % 128 = k.val - 24 by omega]; rfl
  rw [if_neg h1, if_neg h1]
  by_cases h2 : 16 ≤ k.val ∧ k.val < 24
  · rw [if_pos h2, if_pos h2, show (k.val + 128 - 16) % 128 = k.val - 16 by omega]; rfl
  rw [if_neg h2, if_neg h2]
  by_cases h3 : 8 ≤ k.val ∧ k.val < 16
  · rw [if_pos h3, if_pos h3, show (k.val + 128 - 8) % 128 = k.val - 8 by omega]; rfl
  rw [if_neg h3, if_neg h3]

variable (m s l gx : Vec Ideal S1536x128 .f32) (lab : Vec Ideal S1536x1 .i32) (r : Fin 1536) (w : BitVec 32) (hw : lab (ix2 r 0) = w) (hl : IsLab w)
  (mx se ll : EReal) (h1 : Finset.univ.sup (fun q : Fin 128 => m (ix2 r q)) = mx)
  (h2 : ∑ k : Fin 128, s (ix2 r k) * Ideal.exp (m (ix2 r k) - mx) = se) (h3 : ∑ k : Fin 128, l (ix2 r k) = ll)

include hw hl h1 h2 h3 in
/-- The loss of a row. -/
theorem loss_apply : k0_pay8 (F := Ideal) m s l lab (ix2 r 0) = if w.toNat < 32768 then mx + Ideal.log se - ll else 0 := by
  pointwise [k0_pay8]
  rw [pay7_apply, hw, valid_word hl, select_ite rfl, pay4_apply, pay3_apply, pay5_apply, h1, h2, h3]

include hw hl h1 h2 h3 in
/-- The statistics of a row. -/
theorem stats_apply (G : ℕ → EReal) (hG : ∀ q : Fin 128, q.val < 8 → gx (ix2 r q) = G q.val) (k : Fin 128) :
    statsOf m s l gx lab (ix2 r k) = statRow mx se (w.toNat < 32768) (laneE w mx se ll G) k.val := by
  have e3 : k0_pay3 (F := Ideal) m (ix2 r 0) = mx := (pay3_apply m r).trans h1
  have e4 : k0_pay4 (F := Ideal) m s (ix2 r 0) = se := by rw [pay4_apply, e3, h2]
  have e5 : k0_pay5 (F := Ideal) l (ix2 r 0) = ll := (pay5_apply l r).trans h3
  have e7 : k0_pay7 (F := Ideal) lab (ix2 r 0) = if w.toNat < 32768 then 1#1 else 0#1 := by rw [pay7_apply, hw, valid_word hl]
  refine (pay2_apply _ _ _ _ r k (w.toNat < 32768) e7 (laneE w mx se ll G) fun q => ?_).trans (by rw [e3, e4])
  refine pay13_apply _ _ _ _ _ r q w ((pay6_apply lab r).trans hw) e7 ((pay11_apply lab r).trans (by rw [hw])) mx se ll G (fun hq => ?_) ?_
  · rw [pay9_apply, e3, e4, hG q hq]
  · rw [pay10_apply, e3, e4, e5]

end Cert.ForwardIdeal.Hand

end
-- ==== Proof.ForwardArrays.lean ====
/- The blocks a grid point of the forward kernel reads, at an index of the arrays (hand-written, untrusted). -/
module

public import proofs.«01_k».proof.Proof.ForwardFinal
public import Idealize.ShloMosaic.Lib.Claim
public import Idealize.ShloMosaic.Lib.Pipeline.ValueKit
public import Idealize.ShloMosaic.Lib.StableHlo.RunRead

@[expose] public section

set_option maxRecDepth 16384

noncomputable section

open scoped BigOperators

namespace Cert.ForwardIdeal.Hand

open Cert.ForwardIdeal Cert.ForwardIdeal.Gen Cert.ForwardMath Idealize.ShloMosaic Idealize.ShloMosaic.TcCoe Idealize.SL.Sem

variable (m : (ℓ : Loc nD τ sig) → Buf (Elt Ideal) ℓ)

theorem coords_val : ∀ t : Fin grid0.N, ((grid0.coords t) 0).val = t.val := by decide +kernel

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, t.val] := by decide +kernel
theorem idx4 : ∀ t : Fin grid0.N, win0_4.index t = ![0, 0] := by decide +kernel

variable (c : Dev nD) (t : Fin cfg0.N)

theorem t_lt : t.val < 64 := lt_of_lt_of_eq t.isLt N_0

theorem blk0 (r : Fin 1536) (d : Fin 2880) :
    iblk m c 0 t (ix2 r d) = m ((c : Thread nD τ).loc main_arg0) (ix2 r d) := by
  blk_ext [iblk, V, idx0 t]

theorem blk1 (r : Fin 1536) (d : Fin 1) :
    iblk m c 1 t (ix2 r d) = m ((c : Thread nD τ).loc main_arg1) (ix2 r d) := by
  blk_ext [iblk, V, idx1 t]

theorem blk2 (k : Fin 512) (d : Fin 2880) (h : 512 * t.val + k.val < 32768) :
    iblk m c 2 t (ix2 k d) = m ((c : Thread nD τ).loc main_arg2) (ix2 ⟨512 * t.val + k.val, h⟩ d) := by
  blk_ext [iblk, V, idx2 t]

theorem V5 (i : S1x32768.Idx) : V m c main_v5 i
    = shapeCast S1x32768 (m ((c : Thread nD τ).loc main_arg3)) shapeCasts_S32768_S1x32768 i := by
  unfold V hostOps0 hostOps0_1 hostOps0_2 hostOps0_3 hostOps0_4
  simp only [List.flatten_cons, List.flatten_nil, List.cons_append, List.nil_append, List.append_nil]
  after_reads_simp
  rfl

theorem blk3 (k : Fin 512) (d : Fin 1) (h : 512 * t.val + k.val < 32768) :
    iblk m c 3 t (ix2 d k) = m ((c : Thread nD τ).loc main_arg3) (ix1 ⟨512 * t.val + k.val, h⟩) := by
  have e : (win0_3.blk t).view.emb (ix2 d k) = ix2 (0 : Fin 1) (⟨512 * t.val + k.val, h⟩ : Fin 32768) := by
    blk_ext [idx3 t]
  refine (congrArg (V m c main_v5) e).trans ((V5 m c _).trans ?_)
  refine shapeCast_apply _ _ _ _ ((Shape.rowMajor_val_one _).trans (Eq.trans ?_ (Shape.rowMajor_val_two _).symm))
  show 512 * t.val + k.val = 0 * 32768 + (512 * t.val + k.val)
  omega

/-- The label's word of a row, from the word given. -/
def labWord (w : BitVec 32) : BitVec 32 :=
  Scalar.select (IntOp.cmpi .eq w 4294967196#32) 4294967295#32 (IntOp.minsi 32767#32 (IntOp.maxsi 0#32 w))

/-- Row `r` among the 6 × 256 labels. -/
abbrev labIx (r : Fin 1536) : (⟨2, ![6, 256]⟩ : Shape).Idx := ix2 ⟨r.val / 256, by have := r.isLt; omega⟩ ⟨r.val % 256, by omega⟩

theorem V4 (i : S1536x1.Idx) : V m c main_v4 i
    = labWord (shapeCast S1536x1 (m ((c : Thread nD τ).loc main_arg4)) shapeCasts_S6x256_S1536x1 i) := by
  unfold V hostOps0 hostOps0_1 hostOps0_2 hostOps0_3 hostOps0_4
  simp only [List.flatten_cons, List.flatten_nil, List.cons_append, List.nil_append, List.append_nil]
  after_reads_simp
  simp only [StableHlo.TRef.ofBuf_toBuf]
  rfl

theorem blk4 (r : Fin 1536) (d : Fin 1) :
    iblk m c 4 t (ix2 r d) = labWord (m ((c : Thread nD τ).loc main_arg4) (labIx r)) := by
  have e : (win0_4.blk t).view.emb (ix2 r d) = ix2 r (0 : Fin 1) := by blk_ext [idx4 t]
  refine (congrArg (V m c main_v4) e).trans ((V4 m c _).trans (congrArg labWord ?_))
  refine shapeCast_apply _ _ _ _ ((Shape.rowMajor_val_two _).trans (Eq.trans ?_ (Shape.rowMajor_val_two _).symm))
  show r.val / 256 * 256 + r.val % 256 = r.val * 1 + 0
  omega

end Cert.ForwardIdeal.Hand

end
-- ==== Proof.ForwardStep.lean ====
/- One point's step on the carried scratch of the forward kernel, as running totals of a row's logits (hand-written, untrusted). -/
module

public import proofs.«01_k».proof.Proof.ForwardFinal

@[expose] public section

set_option maxRecDepth 16384

noncomputable section

open scoped BigOperators

namespace Cert.ForwardIdeal.Hand

open Cert.ForwardIdeal Cert.ForwardIdeal.Gen Cert.ForwardMath Idealize.ShloMosaic Idealize.ShloMosaic.TcCoe Idealize.SL.Sem

/-- A lane's logits of a row. -/
abbrev laneL (f : ℕ → EReal) (q : ℕ) : ℕ → EReal := fun u => f (128 * u + q)

/-- A row's logits, the label's left out. -/
def others (f : ℕ → EReal) (w : ℕ) : ℕ → EReal := fun v => if v = w then ⊥ else f v

/-- The greatest of a lane's entries from `a` on, below `b`. -/
def gS (p : ℕ → EReal) (a b : ℕ) : EReal := (Finset.Ico a b).sup p

theorem gS_self (p : ℕ → EReal) (a : ℕ) : gS p a a = ⊥ := by
  rw [gS, Finset.Ico_self, Finset.sup_empty]

theorem gS_succ (p : ℕ → EReal) {a b : ℕ} (h : a ≤ b) : gS p a (b + 1) = max (gS p a b) (p b) := by
  rw [gS, Nat.Ico_succ_right_eq_insert_Ico h, Finset.sup_insert, max_comm]; rfl

theorem gS_four (p : ℕ → EReal) {a b : ℕ} (h : a ≤ b) :
    max (max (max (max (gS p a b) (p b)) (p (b + 1))) (p (b + 2))) (p (b + 3)) = gS p a (b + 4) := by
  rw [gS_succ p (show a ≤ b + 3 by omega), gS_succ p (show a ≤ b + 2 by omega), gS_succ p (show a ≤ b + 1 by omega), gS_succ p h]

/-- The label's logit in its own lane, once `N` columns are done. -/
def seen (f : ℕ → EReal) (w q N : ℕ) : EReal := if w < N ∧ w % 128 = q then f w else 0

/-- The greatest logit of a group of 4096 columns, the label's left out. -/
def grp (f : ℕ → EReal) (w q : ℕ) : EReal := (Finset.univ : Finset (Fin 4096)).sup fun v => others f w (4096 * q + v.val)

variable (L : Vec Ideal S1536x512 .f32) (f : ℕ → EReal) (r : Fin 1536) (n : ℕ) (hL : ∀ k : Fin 512, L (ix2 r k) = f (512 * n + k.val))
  (m s g l : Vec Ideal S1536x128 .f32) (q : Fin 128)

include hL in
theorem L0 : L (ix2 r (col0 q)) = laneL f q.val (4 * n) := by
  rw [hL]; show f (512 * n + q.val) = f (128 * (4 * n) + q.val); congr 1; omega
include hL in
theorem L1 : L (ix2 r (col 128 q (by omega))) = laneL f q.val (4 * n + 1) := by
  rw [hL]; show f (512 * n + (128 + q.val)) = f (128 * (4 * n + 1) + q.val); congr 1; omega
include hL in
theorem L2 : L (ix2 r (col 256 q (by omega))) = laneL f q.val (4 * n + 2) := by
  rw [hL]; show f (512 * n + (256 + q.val)) = f (128 * (4 * n + 2) + q.val); congr 1; omega
include hL in
theorem L3 : L (ix2 r (col 384 q (by omega))) = laneL f q.val (4 * n + 3) := by
  rw [hL]; show f (512 * n + (384 + q.val)) = f (128 * (4 * n + 3) + q.val); congr 1; omega

include hL in
theorem m_step (hm : m (ix2 r q) = mS (laneL f q.val) (4 * n)) : mOf m L (ix2 r q) = mS (laneL f q.val) (4 * (n + 1)) := by
  show max (max (max (max (m (ix2 r q)) (L (ix2 r (col0 q)))) (L (ix2 r (col 128 q (by omega))))) (L (ix2 r (col 256 q (by omega)))))
    (L (ix2 r (col 384 q (by omega)))) = _
  rw [L0 L f r n hL, L1 L f r n hL, L2 L f r n hL, L3 L f r n hL, hm, mS_four]
  rfl

include hL in
theorem s_step (hm : m (ix2 r q) = mS (laneL f q.val) (4 * n)) (hs : s (ix2 r q) = sS (laneL f q.val) (4 * n)) :
    sOf m s L (ix2 r q) = sS (laneL f q.val) (4 * (n + 1)) := by
  show s (ix2 r q) * Ideal.exp (m (ix2 r q) - mOf m L (ix2 r q)) + Ideal.exp (L (ix2 r (col0 q)) - mOf m L (ix2 r q))
    + Ideal.exp (L (ix2 r (col 128 q (by omega))) - mOf m L (ix2 r q)) + Ideal.exp (L (ix2 r (col 256 q (by omega))) - mOf m L (ix2 r q))
    + Ideal.exp (L (ix2 r (col 384 q (by omega))) - mOf m L (ix2 r q)) = _
  rw [m_step L f r n hL m q hm, L0 L f r n hL, L1 L f r n hL, L2 L f r n hL, L3 L f r n hL, hm, hs]
  exact sS_four (laneL f q.val) (4 * n)

variable (lab : Vec Ideal S1536x1 .i32) (w : ℕ) (hw : (lab (ix2 r 0)).toNat = w)

include hL hw in
theorem g_step (a : ℕ) (ha : a ≤ 4 * n) (hg : g (ix2 r q) = gS (laneL (others f w) q.val) a (4 * n)) :
    gOf lab g n L (ix2 r q) = gS (laneL (others f w) q.val) a (4 * (n + 1)) := by
  have e : ∀ c u : ℕ, 512 * n + c + q.val = 128 * u + q.val →
      (if 512 * n + c + q.val = w then (⊥ : EReal) else laneL f q.val u) = laneL (others f w) q.val u := by
    intro c u h
    rw [h]; rfl
  show max (max (max (max (g (ix2 r q)) (if 512 * n + 0 + q.val = (lab (ix2 r 0)).toNat then ⊥ else L (ix2 r (col0 q))))
    (if 512 * n + 128 + q.val = (lab (ix2 r 0)).toNat then ⊥ else L (ix2 r (col 128 q (by omega)))))
    (if 512 * n + 256 + q.val = (lab (ix2 r 0)).toNat then ⊥ else L (ix2 r (col 256 q (by omega)))))
    (if 512 * n + 384 + q.val = (lab (ix2 r 0)).toNat then ⊥ else L (ix2 r (col 384 q (by omega)))) = _
  rw [L0 L f r n hL, L1 L f r n hL, L2 L f r n hL, L3 L f r n hL, hg, hw, e 0 (4 * n) (by omega), e 128 (4 * n + 1) (by omega),
    e 256 (4 * n + 2) (by omega), e 384 (4 * n + 3) (by omega)]
  exact gS_four _ ha

include hL hw in
theorem l_step (hl : l (ix2 r q) = seen f w q.val (512 * n)) : lOf lab l n L (ix2 r q) = seen f w q.val (512 * (n + 1)) := by
  have hq := q.isLt
  show (if 512 * n + 384 + q.val = (lab (ix2 r 0)).toNat then L (ix2 r (col 384 q (by omega)))
    else if 512 * n + 256 + q.val = (lab (ix2 r 0)).toNat then L (ix2 r (col 256 q (by omega)))
    else if 512 * n + 128 + q.val = (lab (ix2 r 0)).toNat then L (ix2 r (col 128 q (by omega)))
    else if 512 * n + q.val = (lab (ix2 r 0)).toNat then L (ix2 r (col0 q)) else l (ix2 r q)) = _
  rw [hL, hL, hL, hL, hl, hw]
  show (if 512 * n + 384 + q.val = w then f (512 * n + (384 + q.val)) else if 512 * n + 256 + q.val = w then f (512 * n + (256 + q.val))
    else if 512 * n + 128 + q.val = w then f (512 * n + (128 + q.val)) else if 512 * n + q.val = w then f (512 * n + q.val)
    else seen f w q.val (512 * n)) = _
  by_cases h3 : 512 * n + 384 + q.val = w
  · rw [if_pos h3, seen, if_pos ⟨by omega, by omega⟩, ← h3, add_assoc]
  rw [if_neg h3]
  by_cases h2 : 512 * n + 256 + q.val = w
  · rw [if_pos h2, seen, if_pos ⟨by omega, by omega⟩, ← h2, add_assoc]
  rw [if_neg h2]
  by_cases h1 : 512 * n + 128 + q.val = w
  · rw [if_pos h1, seen, if_pos ⟨by omega, by omega⟩, ← h1, add_assoc]
  rw [if_neg h1]
  by_cases h0 : 512 * n + q.val = w
  · rw [if_pos h0, seen, if_pos ⟨by omega, by omega⟩, ← h0]
  rw [if_neg h0, seen, seen]
  by_cases h : w < 512 * n ∧ w % 128 = q.val
  · rw [if_pos h, if_pos ⟨by omega, h.2⟩]
  · rw [if_neg h, if_neg (by omega)]

/-- The carried scratch, row `r`, after `n` points: the running totals of the row's logits `f` with label `w`. -/
structure Inv (f : ℕ → EReal) (w : ℕ) (r : Fin 1536) (n : ℕ) (m s g l gx : Vec Ideal S1536x128 .f32) : Prop where
  m : ∀ q : Fin 128, m (ix2 r q) = mS (laneL f q.val) (4 * n)
  s : ∀ q : Fin 128, s (ix2 r q) = sS (laneL f q.val) (4 * n)
  g : ∀ q : Fin 128, g (ix2 r q) = gS (laneL (others f w) q.val) (32 * ((n - 1) / 8)) (4 * n)
  l : ∀ q : Fin 128, l (ix2 r q) = seen f w q.val (512 * n)
  x : ∀ q : Fin 128, gx (ix2 r q) = if 8 * q.val + 8 ≤ n then grp f w q.val else 0

theorem inv_zero (f : ℕ → EReal) (w : ℕ) (r : Fin 1536) :
    Inv f w r 0 (k0_pay14 (F := Ideal)) (k0_pay15 (F := Ideal)) (k0_pay18 (F := Ideal)) (k0_pay16 (F := Ideal)) (k0_pay17 (F := Ideal)) where
  m q := pay14_apply r q
  s q := pay15_apply r q
  g q := (pay18_apply r q).trans (gS_self _ _).symm
  l q := (pay16_apply r q).trans (if_neg (by omega)).symm
  x q := (pay17_apply r q).trans (if_neg (by omega)).symm

/-- At a group's first point the group's maximum starts over. -/
theorem Inv.fresh {f : ℕ → EReal} {w : ℕ} {r : Fin 1536} {n : ℕ} {m s g l gx : Vec Ideal S1536x128 .f32} (h : Inv f w r n m s g l gx)
    (h8 : n % 8 = 0) (q : Fin 128) : k0_pay18 (F := Ideal) (ix2 r q) = gS (laneL (others f w) q.val) (32 * (n / 8)) (4 * n) := by
  rw [show 32 * (n / 8) = 4 * n by omega, gS_self]
  exact pay18_apply r q

theorem Inv.kept {f : ℕ → EReal} {w : ℕ} {r : Fin 1536} {n : ℕ} {m s g l gx : Vec Ideal S1536x128 .f32} (h : Inv f w r n m s g l gx)
    (h8 : ¬n % 8 = 0) (q : Fin 128) : g (ix2 r q) = gS (laneL (others f w) q.val) (32 * (n / 8)) (4 * n) := by
  rw [h.g q, show (n - 1) / 8 = n / 8 by omega]

include hL hw in
/-- A point that does not end a group. -/
theorem Inv.step {g' gx : Vec Ideal S1536x128 .f32} (h : Inv f w r n m s g' l gx)
    (hg : ∀ q : Fin 128, g (ix2 r q) = gS (laneL (others f w) q.val) (32 * (n / 8)) (4 * n)) (h7 : ¬n % 8 = 7) :
    Inv f w r (n + 1) (mOf m L) (sOf m s L) (gOf lab g n L) (lOf lab l n L) gx where
  m q := m_step L f r n hL m q (h.m q)
  s q := s_step L f r n hL m s q (h.m q) (h.s q)
  g q := by
    rw [Nat.add_sub_cancel]
    exact g_step L f r n hL g q lab w hw _ (by omega) (hg q)
  l q := l_step L f r n hL l q lab w hw (h.l q)
  x q := by
    rw [h.x q]
    by_cases hc : 8 * q.val + 8 ≤ n
    · rw [if_pos hc, if_pos (by omega)]
    · rw [if_neg hc, if_neg (by omega)]

include hL hw in
/-- A point that ends a group. -/
theorem Inv.close (hn : n < 64) {gx : Vec Ideal S1536x128 .f32} (h : Inv f w r n m s g l gx) (h7 : n % 8 = 7) :
    Inv f w r (n + 1) (mOf m L) (sOf m s L) (gOf lab g n L) (lOf lab l n L) (k0_pay1 (F := Ideal) (BitVec.ofNat 32 n) (gOf lab g n L) gx) where
  m q := m_step L f r n hL m q (h.m q)
  s q := s_step L f r n hL m s q (h.m q) (h.s q)
  g q := by
    rw [Nat.add_sub_cancel]
    exact g_step L f r n hL g q lab w hw _ (by omega) (h.kept (by omega) q)
  l q := l_step L f r n hL l q lab w hw (h.l q)
  x q := by
    rw [pay1_apply n hn, h.x q]
    by_cases hq : q.val = n / 8
    · rw [if_pos hq, if_pos (by omega), grp, ← sup_group, hq]
      refine Finset.sup_congr rfl fun k _ => ?_
      rw [g_step L f r n hL g k lab w hw _ (by omega) (h.kept (by omega) k), show 4 * (n + 1) = 32 * (n / 8) + 32 by omega]
      rfl
    · rw [if_neg hq]
      by_cases hc : 8 * q.val + 8 ≤ n
      · rw [if_pos hc, if_pos (by omega)]
      · rw [if_neg hc, if_neg (by omega)]

end Cert.ForwardIdeal.Hand

end
-- ==== Proof.ForwardSum.lean ====
/- What the arrays of the forward kernel end holding, at an index, over the extended reals (hand-written, untrusted). -/
module

public import proofs.«01_k».proof.Proof.ForwardArrays
public import proofs.«01_k».proof.Proof.ForwardStep

@[expose] public section

set_option maxRecDepth 16384

noncomputable section

open scoped BigOperators

namespace Cert.ForwardIdeal.Hand

open Cert.ForwardIdeal Cert.ForwardIdeal.Gen Cert.ForwardIdeal.Value Cert.ForwardMath Idealize.ShloMosaic Idealize.ShloMosaic.TcCoe Idealize.SL.Sem

/-! ## The mathematics, over whole arrays -/

/-- The logit of row `r` and column `v`, for any number `v`. -/
def lgAt (H : Vec Ideal ⟨2, ![1536, 2880]⟩ .fp8e4m3) (Hs : Vec Ideal ⟨2, ![1536, 1]⟩ .f32) (W : Vec Ideal ⟨2, ![32768, 2880]⟩ .fp8e4m3)
    (Ws : Vec Ideal ⟨1, ![32768]⟩ .f32) (r : Fin 1536) (v : ℕ) : EReal :=
  (∑ d : Fin 2880, H (ix2 r d) * W (ix2 (⟨v % 32768, Nat.mod_lt _ (by decide)⟩ : Fin 32768) d)) * Hs (ix2 r 0)
    * Ws (ix1 (⟨v % 32768, Nat.mod_lt _ (by decide)⟩ : Fin 32768))

/-- A row's greatest logit. -/
def mxOf (f : ℕ → EReal) : EReal := (Finset.univ : Finset (Fin 32768)).sup fun v => f v.val

/-- A row's sum of exponentials. -/
def seOf (f : ℕ → EReal) : EReal := ∑ v : Fin 32768, Ideal.exp (f v.val - mxOf f)

/-- The label's logit, or nothing. -/
def llOf (f : ℕ → EReal) (w : BitVec 32) : EReal := if w.toNat < 32768 then f w.toNat else 0

/-- The loss of a row. -/
def lossRow (f : ℕ → EReal) (w : BitVec 32) : EReal :=
  if w.toNat < 32768 then mxOf f + Ideal.log (seOf f) - llOf f w else 0

/-- The statistics of a row. -/
def statsRow (f : ℕ → EReal) (w : BitVec 32) (k : ℕ) : EReal :=
  statRow (mxOf f) (seOf f) (w.toNat < 32768) (laneE w (mxOf f) (seOf f) (llOf f w) (grp f w.toNat)) k

theorem sum_seen (f : ℕ → EReal) (w : BitVec 32) : ∑ k : Fin 128, seen f w.toNat k.val 32768 = llOf f w := by
  unfold seen llOf
  by_cases h : w.toNat < 32768
  · rw [if_pos h, Finset.sum_eq_single (⟨w.toNat % 128, Nat.mod_lt _ (by decide)⟩ : Fin 128)]
    · rw [if_pos ⟨h, rfl⟩]
    · intro b _ hb
      exact if_neg fun e => hb (Fin.ext e.2.symm)
    · intro h; exact absurd (Finset.mem_univ _) h
  · rw [if_neg h]
    exact Finset.sum_eq_zero fun k _ => if_neg fun e => h e.1

theorem labWord_cases (w : BitVec 32) :
    (w = 4294967196#32 ∧ labWord w = 4294967295#32)
      ∨ (w ≠ 4294967196#32 ∧ labWord w = IntOp.minsi 32767#32 (IntOp.maxsi 0#32 w)) := by
  by_cases h : w = 4294967196#32
  · exact .inl ⟨h, by rw [h]; decide⟩
  · refine .inr ⟨h, ?_⟩
    exact if_neg fun e => h (IntOp.cmpi_eq.mp e)

theorem clip_lt (w : BitVec 32) : (IntOp.minsi 32767#32 (IntOp.maxsi 0#32 w)).toNat < 32768 := by
  unfold IntOp.minsi IntOp.maxsi
  have e1 : (32767#32).toInt = 32767 := rfl
  have e0 : (0#32).toInt = 0 := rfl
  by_cases h : w.slt 0#32
  · rw [if_pos h]; decide
  · rw [if_neg h]
    by_cases h2 : (32767#32).slt w
    · rw [if_pos h2]; decide
    · rw [if_neg h2]
      rw [BitVec.slt_iff_toInt_lt] at h h2
      rw [e0] at h
      rw [e1] at h2
      rw [BitVec.toInt_eq_toNat_cond] at h h2
      have := w.isLt
      split at h <;> omega

theorem isLab_labWord (w : BitVec 32) : IsLab (labWord w) := by
  rcases labWord_cases w with ⟨_, h⟩ | ⟨_, h⟩
  · exact .inl h
  · exact .inr (by rw [h]; exact clip_lt w)

/-! ## One point -/

variable (m : (ℓ : Loc nD τ sig) → Buf (Elt Ideal) ℓ) (c : Dev nD)

abbrev aH : Vec Ideal ⟨2, ![1536, 2880]⟩ .fp8e4m3 := m ((c : Thread nD τ).loc main_arg0)
abbrev aHs : Vec Ideal ⟨2, ![1536, 1]⟩ .f32 := m ((c : Thread nD τ).loc main_arg1)
abbrev aW : Vec Ideal ⟨2, ![32768, 2880]⟩ .fp8e4m3 := m ((c : Thread nD τ).loc main_arg2)
abbrev aWs : Vec Ideal ⟨1, ![32768]⟩ .f32 := m ((c : Thread nD τ).loc main_arg3)
abbrev aLab : Vec Ideal ⟨2, ![6, 256]⟩ .i32 := m ((c : Thread nD τ).loc main_arg4)

/-- A row's logits. -/
abbrev rowL (r : Fin 1536) : ℕ → EReal := lgAt (aH m c) (aHs m c) (aW m c) (aWs m c) r

/-- A row's label word. -/
abbrev rowW (r : Fin 1536) : BitVec 32 := labWord (aLab m c (labIx r))

theorem lg_blk (t : Fin cfg0.N) (r : Fin 1536) (k : Fin 512) :
    lgOf (iblk m c 0 t) (iblk m c 1 t) (iblk m c 2 t) (iblk m c 3 t) (ix2 r k) = rowL m c r (512 * t.val + k.val) := by
  have ht := t_lt t
  have hk := k.isLt
  have hb : 512 * t.val + k.val < 32768 := by omega
  have e : (⟨(512 * t.val + k.val) % 32768, Nat.mod_lt _ (by decide)⟩ : Fin 32768) = ⟨512 * t.val + k.val, hb⟩ := Fin.ext (Nat.mod_eq_of_lt hb)
  unfold rowL lgAt
  rw [e]
  exact congrArg₂ (fun a b : EReal => a * b) (congrArg₂ (fun a b : EReal => a * b)
    (Finset.sum_congr rfl fun d _ => congrArg₂ (fun a b : EReal => a * b) (blk0 m c t r d) (blk2 m c t k d hb))
    (blk1 m c t r 0)) (blk3 m c t k 0 hb)

theorem lab_blk (t : Fin cfg0.N) (r : Fin 1536) : iblk m c 4 t (ix2 r 0) = rowW m c r := blk4 m c t r 0

/-- A point's logits. -/
abbrev LL (t : Fin cfg0.N) : Vec Ideal S1536x512 .f32 := lgOf (iblk m c 0 t) (iblk m c 1 t) (iblk m c 2 t) (iblk m c 3 t)

theorem point_A_lg (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : t.val % 64 = 0) (h1 : t.val % 8 = 0) (h2 : ¬t.val % 8 = 7) (h3 : ¬t.val % 64 = 63) :
    (stAt0 m c t.val t.isLt acc).1 = LL m c t := by
  have e := out0_A_5_eq c t (iblk m c 0 t) (iblk m c 1 t) (iblk m c 2 t) (iblk m c 3 t) (iblk m c 4 t)  ((hcond0_0 t).mpr h0) ((hcond0_1 t).mpr h1) (fun h => h2 ((hcond0_2 t).mp h)) (fun h => h3 ((hcond0_3 t).mp h))
  have e2 := congrArg (fun s => s.1) (stAt0_A m c t acc h0 h1 h2 h3)
  dsimp only at e2
  rw [e] at e2
  exact e2

theorem point_A_m (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : t.val % 64 = 0) (h1 : t.val % 8 = 0) (h2 : ¬t.val % 8 = 7) (h3 : ¬t.val % 64 = 63) :
    (stAt0 m c t.val t.isLt acc).2.2.2.1 = mOf (k0_pay14 (F := Ideal)) (LL m c t) := by
  have e := sout0_A_0_eq c t (iblk m c 0 t) (iblk m c 1 t) (iblk m c 2 t) (iblk m c 3 t) (iblk m c 4 t)  ((hcond0_0 t).mpr h0) ((hcond0_1 t).mpr h1) (fun h => h2 ((hcond0_2 t).mp h)) (fun h => h3 ((hcond0_3 t).mp h))
  have e2 := congrArg (fun s => s.2.2.2.1) (stAt0_A m c t acc h0 h1 h2 h3)
  dsimp only at e2
  rw [e] at e2
  exact e2

theorem point_A_s (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : t.val % 64 = 0) (h1 : t.val % 8 = 0) (h2 : ¬t.val % 8 = 7) (h3 : ¬t.val % 64 = 63) :
    (stAt0 m c t.val t.isLt acc).2.2.2.2.1 = sOf (k0_pay14 (F := Ideal)) (k0_pay15 (F := Ideal)) (LL m c t) := by
  have e := sout0_A_1_eq c t (iblk m c 0 t) (iblk m c 1 t) (iblk m c 2 t) (iblk m c 3 t) (iblk m c 4 t)  ((hcond0_0 t).mpr h0) ((hcond0_1 t).mpr h1) (fun h => h2 ((hcond0_2 t).mp h)) (fun h => h3 ((hcond0_3 t).mp h))
  have e2 := congrArg (fun s => s.2.2.2.2.1) (stAt0_A m c t acc h0 h1 h2 h3)
  dsimp only at e2
  rw [e] at e2
  exact e2

theorem point_A_g (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : t.val % 64 = 0) (h1 : t.val % 8 = 0) (h2 : ¬t.val % 8 = 7) (h3 : ¬t.val % 64 = 63) :
    (stAt0 m c t.val t.isLt acc).2.2.2.2.2.1 = gOf (iblk m c 4 t) (k0_pay18 (F := Ideal)) (grid0.coords t 0).val (LL m c t) := by
  have e := sout0_A_2_eq c t (iblk m c 0 t) (iblk m c 1 t) (iblk m c 2 t) (iblk m c 3 t) (iblk m c 4 t)  ((hcond0_0 t).mpr h0) ((hcond0_1 t).mpr h1) (fun h => h2 ((hcond0_2 t).mp h)) (fun h => h3 ((hcond0_3 t).mp h))
  have e2 := congrArg (fun s => s.2.2.2.2.2.1) (stAt0_A m c t acc h0 h1 h2 h3)
  dsimp only at e2
  rw [e] at e2
  exact e2

theorem point_A_l (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : t.val % 64 = 0) (h1 : t.val % 8 = 0) (h2 : ¬t.val % 8 = 7) (h3 : ¬t.val % 64 = 63) :
    (stAt0 m c t.val t.isLt acc).2.2.2.2.2.2.1 = lOf (iblk m c 4 t) (k0_pay16 (F := Ideal)) (grid0.coords t 0).val (LL m c t) := by
  have e := sout0_A_3_eq c t (iblk m c 0 t) (iblk m c 1 t) (iblk m c 2 t) (iblk m c 3 t) (iblk m c 4 t)  ((hcond0_0 t).mpr h0) ((hcond0_1 t).mpr h1) (fun h => h2 ((hcond0_2 t).mp h)) (fun h => h3 ((hcond0_3 t).mp h))
  have e2 := congrArg (fun s => s.2.2.2.2.2.2.1) (stAt0_A m c t acc h0 h1 h2 h3)
  dsimp only at e2
  rw [e] at e2
  exact e2

theorem point_A_x (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : t.val % 64 = 0) (h1 : t.val % 8 = 0) (h2 : ¬t.val % 8 = 7) (h3 : ¬t.val % 64 = 63) :
    (stAt0 m c t.val t.isLt acc).2.2.2.2.2.2.2 = (k0_pay17 (F := Ideal)) := by
  have e := sout0_A_4_eq c t (iblk m c 0 t) (iblk m c 1 t) (iblk m c 2 t) (iblk m c 3 t) (iblk m c 4 t)  ((hcond0_0 t).mpr h0) ((hcond0_1 t).mpr h1) (fun h => h2 ((hcond0_2 t).mp h)) (fun h => h3 ((hcond0_3 t).mp h))
  have e2 := congrArg (fun s => s.2.2.2.2.2.2.2) (stAt0_A m c t acc h0 h1 h2 h3)
  dsimp only at e2
  rw [e] at e2
  exact e2

theorem point_B_lg (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : ¬t.val % 8 = 7) (h3 : ¬t.val % 64 = 63) :
    (stAt0 m c t.val t.isLt acc).1 = LL m c t := by
  have e := out0_B_5_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (fun h => h2 ((hcond0_2 t).mp h)) (fun h => h3 ((hcond0_3 t).mp h))
  have e2 := congrArg (fun s => s.1) (stAt0_B m c t acc h0 h1 h2 h3)
  dsimp only at e2
  rw [e] at e2
  exact e2

theorem point_B_m (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : ¬t.val % 8 = 7) (h3 : ¬t.val % 64 = 63) :
    (stAt0 m c t.val t.isLt acc).2.2.2.1 = mOf acc.2.2.2.1 (LL m c t) := by
  have e := sout0_B_0_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (fun h => h2 ((hcond0_2 t).mp h)) (fun h => h3 ((hcond0_3 t).mp h))
  have e2 := congrArg (fun s => s.2.2.2.1) (stAt0_B m c t acc h0 h1 h2 h3)
  dsimp only at e2
  rw [e] at e2
  exact e2

theorem point_B_s (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : ¬t.val % 8 = 7) (h3 : ¬t.val % 64 = 63) :
    (stAt0 m c t.val t.isLt acc).2.2.2.2.1 = sOf acc.2.2.2.1 acc.2.2.2.2.1 (LL m c t) := by
  have e := sout0_B_1_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (fun h => h2 ((hcond0_2 t).mp h)) (fun h => h3 ((hcond0_3 t).mp h))
  have e2 := congrArg (fun s => s.2.2.2.2.1) (stAt0_B m c t acc h0 h1 h2 h3)
  dsimp only at e2
  rw [e] at e2
  exact e2

theorem point_B_g (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : ¬t.val % 8 = 7) (h3 : ¬t.val % 64 = 63) :
    (stAt0 m c t.val t.isLt acc).2.2.2.2.2.1 = gOf (iblk m c 4 t) acc.2.2.2.2.2.1 (grid0.coords t 0).val (LL m c t) := by
  have e := sout0_B_2_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (fun h => h2 ((hcond0_2 t).mp h)) (fun h => h3 ((hcond0_3 t).mp h))
  have e2 := congrArg (fun s => s.2.2.2.2.2.1) (stAt0_B m c t acc h0 h1 h2 h3)
  dsimp only at e2
  rw [e] at e2
  exact e2

theorem point_B_l (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : ¬t.val % 8 = 7) (h3 : ¬t.val % 64 = 63) :
    (stAt0 m c t.val t.isLt acc).2.2.2.2.2.2.1 = lOf (iblk m c 4 t) acc.2.2.2.2.2.2.1 (grid0.coords t 0).val (LL m c t) := by
  have e := sout0_B_3_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (fun h => h2 ((hcond0_2 t).mp h)) (fun h => h3 ((hcond0_3 t).mp h))
  have e2 := congrArg (fun s => s.2.2.2.2.2.2.1) (stAt0_B m c t acc h0 h1 h2 h3)
  dsimp only at e2
  rw [e] at e2
  exact e2

theorem point_B_x (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : ¬t.val % 8 = 7) (h3 : ¬t.val % 64 = 63) :
    (stAt0 m c t.val t.isLt acc).2.2.2.2.2.2.2 = acc.2.2.2.2.2.2.2 := by
  have e := sout0_B_4_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (fun h => h2 ((hcond0_2 t).mp h)) (fun h => h3 ((hcond0_3 t).mp h))
  have e2 := congrArg (fun s => s.2.2.2.2.2.2.2) (stAt0_B m c t acc h0 h1 h2 h3)
  dsimp only at e2
  rw [e] at e2
  exact e2

theorem point_C_lg (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : ¬t.val % 64 = 63) :
    (stAt0 m c t.val t.isLt acc).1 = LL m c t := by
  have e := out0_C_5_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) (fun h => h3 ((hcond0_3 t).mp h))
  have e2 := congrArg (fun s => s.1) (stAt0_C m c t acc h0 h1 h2 h3)
  dsimp only at e2
  rw [e] at e2
  exact e2

theorem point_C_m (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : ¬t.val % 64 = 63) :
    (stAt0 m c t.val t.isLt acc).2.2.2.1 = mOf acc.2.2.2.1 (LL m c t) := by
  have e := sout0_C_0_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) (fun h => h3 ((hcond0_3 t).mp h))
  have e2 := congrArg (fun s => s.2.2.2.1) (stAt0_C m c t acc h0 h1 h2 h3)
  dsimp only at e2
  rw [e] at e2
  exact e2

theorem point_C_s (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : ¬t.val % 64 = 63) :
    (stAt0 m c t.val t.isLt acc).2.2.2.2.1 = sOf acc.2.2.2.1 acc.2.2.2.2.1 (LL m c t) := by
  have e := sout0_C_1_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) (fun h => h3 ((hcond0_3 t).mp h))
  have e2 := congrArg (fun s => s.2.2.2.2.1) (stAt0_C m c t acc h0 h1 h2 h3)
  dsimp only at e2
  rw [e] at e2
  exact e2

theorem point_C_g (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : ¬t.val % 64 = 63) :
    (stAt0 m c t.val t.isLt acc).2.2.2.2.2.1 = gOf (iblk m c 4 t) acc.2.2.2.2.2.1 (grid0.coords t 0).val (LL m c t) := by
  have e := sout0_C_2_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) (fun h => h3 ((hcond0_3 t).mp h))
  have e2 := congrArg (fun s => s.2.2.2.2.2.1) (stAt0_C m c t acc h0 h1 h2 h3)
  dsimp only at e2
  rw [e] at e2
  exact e2

theorem point_C_l (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : ¬t.val % 64 = 63) :
    (stAt0 m c t.val t.isLt acc).2.2.2.2.2.2.1 = lOf (iblk m c 4 t) acc.2.2.2.2.2.2.1 (grid0.coords t 0).val (LL m c t) := by
  have e := sout0_C_3_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) (fun h => h3 ((hcond0_3 t).mp h))
  have e2 := congrArg (fun s => s.2.2.2.2.2.2.1) (stAt0_C m c t acc h0 h1 h2 h3)
  dsimp only at e2
  rw [e] at e2
  exact e2

theorem point_C_x (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : ¬t.val % 64 = 63) :
    (stAt0 m c t.val t.isLt acc).2.2.2.2.2.2.2 = (k0_pay1 (F := Ideal) (BitVec.ofNat 32 (grid0.coords t 0).val) (gOf (iblk m c 4 t) acc.2.2.2.2.2.1 (grid0.coords t 0).val (LL m c t)) acc.2.2.2.2.2.2.2) := by
  have e := sout0_C_4_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) (fun h => h3 ((hcond0_3 t).mp h))
  have e2 := congrArg (fun s => s.2.2.2.2.2.2.2) (stAt0_C m c t acc h0 h1 h2 h3)
  dsimp only at e2
  rw [e] at e2
  exact e2

theorem point_D_lg (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : t.val % 8 = 0) (h2 : ¬t.val % 8 = 7) (h3 : ¬t.val % 64 = 63) :
    (stAt0 m c t.val t.isLt acc).1 = LL m c t := by
  have e := out0_D_5_eq c t (iblk m c 0 t) (iblk m c 1 t) (iblk m c 2 t) (iblk m c 3 t) (iblk m c 4 t) acc.2.2.2.1 acc.2.2.2.2.1 acc.2.2.2.2.2.2.1 acc.2.2.2.2.2.2.2 (fun h => h0 ((hcond0_0 t).mp h)) ((hcond0_1 t).mpr h1) (fun h => h2 ((hcond0_2 t).mp h)) (fun h => h3 ((hcond0_3 t).mp h))
  have e2 := congrArg (fun s => s.1) (stAt0_D m c t acc h0 h1 h2 h3)
  dsimp only at e2
  rw [e] at e2
  exact e2

theorem point_D_m (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : t.val % 8 = 0) (h2 : ¬t.val % 8 = 7) (h3 : ¬t.val % 64 = 63) :
    (stAt0 m c t.val t.isLt acc).2.2.2.1 = mOf acc.2.2.2.1 (LL m c t) := by
  have e := sout0_D_0_eq c t (iblk m c 0 t) (iblk m c 1 t) (iblk m c 2 t) (iblk m c 3 t) (iblk m c 4 t) acc.2.2.2.1 acc.2.2.2.2.1 acc.2.2.2.2.2.2.1 acc.2.2.2.2.2.2.2 (fun h => h0 ((hcond0_0 t).mp h)) ((hcond0_1 t).mpr h1) (fun h => h2 ((hcond0_2 t).mp h)) (fun h => h3 ((hcond0_3 t).mp h))
  have e2 := congrArg (fun s => s.2.2.2.1) (stAt0_D m c t acc h0 h1 h2 h3)
  dsimp only at e2
  rw [e] at e2
  exact e2

theorem point_D_s (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : t.val % 8 = 0) (h2 : ¬t.val % 8 = 7) (h3 : ¬t.val % 64 = 63) :
    (stAt0 m c t.val t.isLt acc).2.2.2.2.1 = sOf acc.2.2.2.1 acc.2.2.2.2.1 (LL m c t) := by
  have e := sout0_D_1_eq c t (iblk m c 0 t) (iblk m c 1 t) (iblk m c 2 t) (iblk m c 3 t) (iblk m c 4 t) acc.2.2.2.1 acc.2.2.2.2.1 acc.2.2.2.2.2.2.1 acc.2.2.2.2.2.2.2 (fun h => h0 ((hcond0_0 t).mp h)) ((hcond0_1 t).mpr h1) (fun h => h2 ((hcond0_2 t).mp h)) (fun h => h3 ((hcond0_3 t).mp h))
  have e2 := congrArg (fun s => s.2.2.2.2.1) (stAt0_D m c t acc h0 h1 h2 h3)
  dsimp only at e2
  rw [e] at e2
  exact e2

theorem point_D_g (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : t.val % 8 = 0) (h2 : ¬t.val % 8 = 7) (h3 : ¬t.val % 64 = 63) :
    (stAt0 m c t.val t.isLt acc).2.2.2.2.2.1 = gOf (iblk m c 4 t) (k0_pay18 (F := Ideal)) (grid0.coords t 0).val (LL m c t) := by
  have e := sout0_D_2_eq c t (iblk m c 0 t) (iblk m c 1 t) (iblk m c 2 t) (iblk m c 3 t) (iblk m c 4 t) acc.2.2.2.1 acc.2.2.2.2.1 acc.2.2.2.2.2.2.1 acc.2.2.2.2.2.2.2 (fun h => h0 ((hcond0_0 t).mp h)) ((hcond0_1 t).mpr h1) (fun h => h2 ((hcond0_2 t).mp h)) (fun h => h3 ((hcond0_3 t).mp h))
  have e2 := congrArg (fun s => s.2.2.2.2.2.1) (stAt0_D m c t acc h0 h1 h2 h3)
  dsimp only at e2
  rw [e] at e2
  exact e2

theorem point_D_l (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : t.val % 8 = 0) (h2 : ¬t.val % 8 = 7) (h3 : ¬t.val % 64 = 63) :
    (stAt0 m c t.val t.isLt acc).2.2.2.2.2.2.1 = lOf (iblk m c 4 t) acc.2.2.2.2.2.2.1 (grid0.coords t 0).val (LL m c t) := by
  have e := sout0_D_3_eq c t (iblk m c 0 t) (iblk m c 1 t) (iblk m c 2 t) (iblk m c 3 t) (iblk m c 4 t) acc.2.2.2.1 acc.2.2.2.2.1 acc.2.2.2.2.2.2.1 acc.2.2.2.2.2.2.2 (fun h => h0 ((hcond0_0 t).mp h)) ((hcond0_1 t).mpr h1) (fun h => h2 ((hcond0_2 t).mp h)) (fun h => h3 ((hcond0_3 t).mp h))
  have e2 := congrArg (fun s => s.2.2.2.2.2.2.1) (stAt0_D m c t acc h0 h1 h2 h3)
  dsimp only at e2
  rw [e] at e2
  exact e2

theorem point_D_x (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : t.val % 8 = 0) (h2 : ¬t.val % 8 = 7) (h3 : ¬t.val % 64 = 63) :
    (stAt0 m c t.val t.isLt acc).2.2.2.2.2.2.2 = acc.2.2.2.2.2.2.2 := by
  have e := sout0_D_4_eq c t (iblk m c 0 t) (iblk m c 1 t) (iblk m c 2 t) (iblk m c 3 t) (iblk m c 4 t) acc.2.2.2.1 acc.2.2.2.2.1 acc.2.2.2.2.2.2.1 acc.2.2.2.2.2.2.2 (fun h => h0 ((hcond0_0 t).mp h)) ((hcond0_1 t).mpr h1) (fun h => h2 ((hcond0_2 t).mp h)) (fun h => h3 ((hcond0_3 t).mp h))
  have e2 := congrArg (fun s => s.2.2.2.2.2.2.2) (stAt0_D m c t acc h0 h1 h2 h3)
  dsimp only at e2
  rw [e] at e2
  exact e2

theorem point_E_lg (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).1 = LL m c t := by
  have e := out0_E_5_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.1) (stAt0_E m c t acc h0 h1 h2 h3)
  dsimp only at e2
  rw [e] at e2
  exact e2

theorem point_E_m (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.2.2.1 = mOf acc.2.2.2.1 (LL m c t) := by
  have e := sout0_E_0_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.2.2.1) (stAt0_E m c t acc h0 h1 h2 h3)
  dsimp only at e2
  rw [e] at e2
  exact e2

theorem point_E_s (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.2.2.2.1 = sOf acc.2.2.2.1 acc.2.2.2.2.1 (LL m c t) := by
  have e := sout0_E_1_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.2.2.2.1) (stAt0_E m c t acc h0 h1 h2 h3)
  dsimp only at e2
  rw [e] at e2
  exact e2

theorem point_E_g (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.2.2.2.2.1 = gOf (iblk m c 4 t) acc.2.2.2.2.2.1 (grid0.coords t 0).val (LL m c t) := by
  have e := sout0_E_2_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.2.2.2.2.1) (stAt0_E m c t acc h0 h1 h2 h3)
  dsimp only at e2
  rw [e] at e2
  exact e2

theorem point_E_l (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.2.2.2.2.2.1 = lOf (iblk m c 4 t) acc.2.2.2.2.2.2.1 (grid0.coords t 0).val (LL m c t) := by
  have e := sout0_E_3_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.2.2.2.2.2.1) (stAt0_E m c t acc h0 h1 h2 h3)
  dsimp only at e2
  rw [e] at e2
  exact e2

theorem point_E_x (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.2.2.2.2.2.2 = (k0_pay1 (F := Ideal) (BitVec.ofNat 32 (grid0.coords t 0).val) (gOf (iblk m c 4 t) acc.2.2.2.2.2.1 (grid0.coords t 0).val (LL m c t)) acc.2.2.2.2.2.2.2) := by
  have e := sout0_E_4_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.2.2.2.2.2.2) (stAt0_E m c t acc h0 h1 h2 h3)
  dsimp only at e2
  rw [e] at e2
  exact e2

theorem point_E_loss (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.1 = k0_pay8 (F := Ideal) (mOf acc.2.2.2.1 (LL m c t)) (sOf acc.2.2.2.1 acc.2.2.2.2.1 (LL m c t)) (lOf (iblk m c 4 t) acc.2.2.2.2.2.2.1 (grid0.coords t 0).val (LL m c t)) (iblk m c 4 t) := by
  have e := out0_E_6_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.1) (stAt0_E m c t acc h0 h1 h2 h3)
  dsimp only at e2
  rw [e] at e2
  exact e2

theorem point_E_stats (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (h0 : ¬t.val % 64 = 0) (h1 : ¬t.val % 8 = 0) (h2 : t.val % 8 = 7) (h3 : t.val % 64 = 63) :
    (stAt0 m c t.val t.isLt acc).2.2.1 = statsOf (mOf acc.2.2.2.1 (LL m c t)) (sOf acc.2.2.2.1 acc.2.2.2.2.1 (LL m c t)) (lOf (iblk m c 4 t) acc.2.2.2.2.2.2.1 (grid0.coords t 0).val (LL m c t)) (k0_pay1 (F := Ideal) (BitVec.ofNat 32 (grid0.coords t 0).val) (gOf (iblk m c 4 t) acc.2.2.2.2.2.1 (grid0.coords t 0).val (LL m c t)) acc.2.2.2.2.2.2.2) (iblk m c 4 t) := by
  have e := out0_E_7_eq c t (iblk m c 0 t) (iblk m c 1 t) (iblk m c 2 t) (iblk m c 3 t) (iblk m c 4 t) acc.2.2.2.1 acc.2.2.2.2.1 acc.2.2.2.2.2.1 acc.2.2.2.2.2.2.1 acc.2.2.2.2.2.2.2 (fun h => h0 ((hcond0_0 t).mp h)) (fun h => h1 ((hcond0_1 t).mp h)) ((hcond0_2 t).mpr h2) ((hcond0_3 t).mpr h3)
  have e2 := congrArg (fun s => s.2.2.1) (stAt0_E m c t acc h0 h1 h2 h3)
  dsimp only at e2
  rw [e] at e2
  exact e2

/-- The carried scratch of a state fits a row's running totals. -/
abbrev InvS (r : Fin 1536) (n : ℕ) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) : Prop :=
  Inv (rowL m c r) (rowW m c r).toNat r n acc.2.2.2.1 acc.2.2.2.2.1 acc.2.2.2.2.2.1 acc.2.2.2.2.2.2.1 acc.2.2.2.2.2.2.2

theorem lab_nat (t : Fin cfg0.N) (r : Fin 1536) : ((iblk m c 4 t : Vec Ideal S1536x1 .i32) (ix2 r 0)).toNat = (rowW m c r).toNat :=
  congrArg BitVec.toNat (lab_blk m c t r)

theorem inv_first (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (r : Fin 1536) (h0 : t.val % 64 = 0) :
    InvS m c r (t.val + 1) (stAt0 m c t.val t.isLt acc) := by
  have ht := t_lt t
  have hz : t.val = 0 := by omega
  have h1 : t.val % 8 = 0 := by omega
  have h2 : ¬t.val % 8 = 7 := by omega
  have h3 : ¬t.val % 64 = 63 := by omega
  unfold InvS
  rw [point_A_m m c t acc h0 h1 h2 h3, point_A_s m c t acc h0 h1 h2 h3, point_A_g m c t acc h0 h1 h2 h3, point_A_l m c t acc h0 h1 h2 h3, point_A_x m c t acc h0 h1 h2 h3, coords_val t]
  have hi : Inv (rowL m c r) (rowW m c r).toNat r t.val (k0_pay14 (F := Ideal)) (k0_pay15 (F := Ideal)) (k0_pay18 (F := Ideal)) (k0_pay16 (F := Ideal)) (k0_pay17 (F := Ideal)) := by
    rw [hz]; exact inv_zero _ _ _
  exact Inv.step (LL m c t) _ r t.val (lg_blk m c t r) _ _ _ _ (iblk m c 4 t) _ (lab_nat m c t r) hi (hi.fresh h1) h2

theorem inv_next (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (r : Fin 1536) (h0 : ¬t.val % 64 = 0) (hi : InvS m c r t.val acc) :
    InvS m c r (t.val + 1) (stAt0 m c t.val t.isLt acc) := by
  have ht := t_lt t
  unfold InvS
  by_cases h1 : t.val % 8 = 0
  · have h2 : ¬t.val % 8 = 7 := by omega
    have h3 : ¬t.val % 64 = 63 := by omega
    rw [point_D_m m c t acc h0 h1 h2 h3, point_D_s m c t acc h0 h1 h2 h3, point_D_g m c t acc h0 h1 h2 h3, point_D_l m c t acc h0 h1 h2 h3, point_D_x m c t acc h0 h1 h2 h3, coords_val t]
    exact Inv.step (LL m c t) _ r t.val (lg_blk m c t r) _ _ _ _ (iblk m c 4 t) _ (lab_nat m c t r) hi (hi.fresh h1) h2
  by_cases h2 : t.val % 8 = 7
  · by_cases h3 : t.val % 64 = 63
    · rw [point_E_m m c t acc h0 h1 h2 h3, point_E_s m c t acc h0 h1 h2 h3, point_E_g m c t acc h0 h1 h2 h3, point_E_l m c t acc h0 h1 h2 h3, point_E_x m c t acc h0 h1 h2 h3, coords_val t]
      exact Inv.close (LL m c t) _ r t.val (lg_blk m c t r) _ _ _ _ (iblk m c 4 t) _ (lab_nat m c t r) ht hi h2
    · rw [point_C_m m c t acc h0 h1 h2 h3, point_C_s m c t acc h0 h1 h2 h3, point_C_g m c t acc h0 h1 h2 h3, point_C_l m c t acc h0 h1 h2 h3, point_C_x m c t acc h0 h1 h2 h3, coords_val t]
      exact Inv.close (LL m c t) _ r t.val (lg_blk m c t r) _ _ _ _ (iblk m c 4 t) _ (lab_nat m c t r) ht hi h2
  · have h3 : ¬t.val % 64 = 63 := by omega
    rw [point_B_m m c t acc h0 h1 h2 h3, point_B_s m c t acc h0 h1 h2 h3, point_B_g m c t acc h0 h1 h2 h3, point_B_l m c t acc h0 h1 h2 h3, point_B_x m c t acc h0 h1 h2 h3, coords_val t]
    exact Inv.step (LL m c t) _ r t.val (lg_blk m c t r) _ _ _ _ (iblk m c 4 t) _ (lab_nat m c t r) hi (hi.kept h1) h2

theorem st_lg (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (r : Fin 1536) (k : Fin 512) :
    (stAt0 m c t.val t.isLt acc).1 (ix2 r k) = rowL m c r (512 * t.val + k.val) := by
  have ht := t_lt t
  have key : (stAt0 m c t.val t.isLt acc).1 = LL m c t := by
    by_cases h0 : t.val % 64 = 0
    · exact point_A_lg m c t acc h0 (by omega) (by omega) (by omega)
    by_cases h1 : t.val % 8 = 0
    · exact point_D_lg m c t acc h0 h1 (by omega) (by omega)
    by_cases h2 : t.val % 8 = 7
    · by_cases h3 : t.val % 64 = 63
      · exact point_E_lg m c t acc h0 h1 h2 h3
      · exact point_C_lg m c t acc h0 h1 h2 h3
    · exact point_B_lg m c t acc h0 h1 h2 (by omega)
  rw [key]
  exact lg_blk m c t r k

/-- The finished scratch, row `r`. -/
theorem finish {m s g l gx : Vec Ideal S1536x128 .f32} {f : ℕ → EReal} {w : BitVec 32} {r : Fin 1536} (h : Inv f w.toNat r 64 m s g l gx) :
    Finset.univ.sup (fun q : Fin 128 => m (ix2 r q)) = mxOf f
      ∧ ∑ k : Fin 128, s (ix2 r k) * Ideal.exp (m (ix2 r k) - mxOf f) = seOf f
      ∧ ∑ k : Fin 128, l (ix2 r k) = llOf f w
      ∧ ∀ q : Fin 128, q.val < 8 → gx (ix2 r q) = grp f w.toNat q.val := by
  refine ⟨?_, ?_, ?_, fun q hq => ?_⟩
  · simp only [h.m]
    exact sup_lanes f
  · simp only [h.m, h.s]
    exact sum_exp_lanes f (mxOf f) rfl
  · simp only [h.l]
    exact sum_seen f w
  · rw [h.x q, if_pos (by omega)]

theorem st_last (t : Fin cfg0.N) (acc : Vec Ideal S1536x512 .f32 × Vec Ideal S1536x1 .f32 × Vec Ideal S1536x128 .f32 × Vec Ideal S1536x128 .f32 × Vec Ideal S1536x128 .f32 × Vec Ideal S1536x128 .f32 × Vec Ideal S1536x128 .f32 × Vec Ideal S1536x128 .f32) (r : Fin 1536) (h3 : t.val = 63) (hi : InvS m c r t.val acc) :
    (stAt0 m c t.val t.isLt acc).2.1 (ix2 r 0) = lossRow (rowL m c r) (rowW m c r)
      ∧ ∀ k : Fin 128, (stAt0 m c t.val t.isLt acc).2.2.1 (ix2 r k) = statsRow (rowL m c r) (rowW m c r) k.val := by
  have e0 : ¬t.val % 64 = 0 := by omega
  have e1 : ¬t.val % 8 = 0 := by omega
  have e2 : t.val % 8 = 7 := by omega
  have e3 : t.val % 64 = 63 := by omega
  have hj := Inv.close (LL m c t) _ r t.val (lg_blk m c t r) _ _ _ _ (iblk m c 4 t) _ (lab_nat m c t r) (t_lt t) hi e2
  rw [show t.val + 1 = 64 by omega] at hj
  obtain ⟨f1, f2, f3, f4⟩ := finish hj
  constructor
  · rw [point_E_loss m c t acc e0 e1 e2 e3, coords_val t]
    exact loss_apply _ _ _ _ r (rowW m c r) (lab_blk m c t r) (isLab_labWord _) _ _ _ f1 f2 f3
  · intro k
    rw [point_E_stats m c t acc e0 e1 e2 e3, coords_val t]
    exact stats_apply _ _ _ _ _ r (rowW m c r) (lab_blk m c t r) (isLab_labWord _) _ _ _ f1 f2 f3 _ f4 k

/-! ## The fold over the points -/

theorem outs_inv (r : Fin 1536) : ∀ (n : ℕ) (h : n < cfg0.N), InvS m c r (n + 1) (outsAt0 m c n h)
  | 0, h => by rw [outsAt0_zero]; exact inv_first m c ⟨0, h⟩ _ r rfl
  | n + 1, h => by
    have hN : n + 1 < 64 := lt_of_lt_of_eq h N_0
    rw [outsAt0_succ]
    exact inv_next m c ⟨n + 1, h⟩ _ r (by dsimp only; omega) (outs_inv r n _)

theorem outs_lg (r : Fin 1536) (k : Fin 512) : ∀ (n : ℕ) (h : n < cfg0.N), (outsAt0 m c n h).1 (ix2 r k) = rowL m c r (512 * n + k.val)
  | 0, h => by rw [outsAt0_zero]; exact st_lg m c ⟨0, h⟩ _ r k
  | n + 1, h => by rw [outsAt0_succ]; exact st_lg m c ⟨n + 1, h⟩ _ r k

/-! ## The arrays -/

theorem G5_apply (r : Fin 1536) (v : Fin 32768) : G5 m c (ix2 r v) = rowL m c r v.val := by
  have hv := v.isLt
  have hr := r.isLt
  have hp : pt5Of (ix2 r v) = v.val / 512 := by
    show 64 * (r.val / 1536 - 0) + 1 * (v.val / 512 - 0) = _
    omega
  have hl : loc5Of (ix2 r v) = ix2 r (⟨v.val % 512, Nat.mod_lt _ (by decide)⟩ : Fin 512) := by
    funext a; apply Fin.ext
    match a with
    | ⟨0, _⟩ => show r.val % 1536 = r.val; omega
    | ⟨1, _⟩ => rfl
  have hb : v.val / 512 < cfg0.N := lt_of_lt_of_eq (by omega) N_0.symm
  unfold G5
  rw [dif_pos (by rw [hp]; exact hb), hl, fold0_congr m c _ _ _ (by omega) hp, ← outsAt0_sweep m c _ hb, outs_lg]
  congr 1
  show 512 * (v.val / 512) + v.val % 512 = v.val
  omega

theorem last (r : Fin 1536) (n : ℕ) (h : n + 1 < cfg0.N) (e : n + 1 = 63) :
    (outsAt0 m c (n + 1) h).2.1 (ix2 r 0) = lossRow (rowL m c r) (rowW m c r)
      ∧ ∀ k : Fin 128, (outsAt0 m c (n + 1) h).2.2.1 (ix2 r k) = statsRow (rowL m c r) (rowW m c r) k.val := by
  rw [outsAt0_succ m c n]
  exact st_last m c ⟨n + 1, h⟩ _ r e (outs_inv m c r n _)

theorem G6_apply (r : Fin 1536) : G6 m c (ix2 r 0) = lossRow (rowL m c r) (rowW m c r) := by
  have h : 63 < cfg0.N := lt_of_lt_of_eq (by decide) N_0.symm
  rw [G6_last, ← outsAt0_sweep m c 63 h]
  exact (last m c r 62 h rfl).1

theorem G7_apply (r : Fin 1536) (k : Fin 128) : G7 m c (ix2 r k) = statsRow (rowL m c r) (rowW m c r) k.val := by
  have h : 63 < cfg0.N := lt_of_lt_of_eq (by decide) N_0.symm
  rw [G7_last, ← outsAt0_sweep m c 63 h]
  exact (last m c r 62 h rfl).2 k

end Cert.ForwardIdeal.Hand

end
-- ==== Proof.RefForward.lean ====
/- What the arrays of the reference for the forward kernel end holding, at an index, over the extended reals (hand-written, untrusted). -/
module

public import proofs.«01_k».proof.Proof.ForwardSum
public import proofs.«01_k».proof.Proof.Gen.RefForwardIdeal.Value

@[expose] public section

set_option maxRecDepth 16384

noncomputable section

open scoped BigOperators

namespace Cert.RefForwardIdeal.Hand

open Cert.RefForwardIdeal Cert.RefForwardIdeal.Gen Cert.RefForwardIdeal.Value Cert.ForwardMath Idealize.ShloMosaic Idealize.ShloMosaic.TcCoe Idealize.SL.Sem

open Cert.ForwardIdeal.Hand (labWord labWord_cases clip_lt labIx lgAt mxOf seOf llOf lossRow statsRow statRow laneE expo fac grp others select_ite lane_eq neg_inf)

theorem fold_sup {n : ℕ} (f : Fin n → EReal) : Finset.fold max (Ideal.ofBits .f32 0xFF800000#32) f Finset.univ = Finset.univ.sup f := by
  rw [neg_inf]; rfl

variable (v0 : Vec Ideal S1536x2880 .fp8e4m3) (v1 : Vec Ideal S32768x2880 .fp8e4m3) (v3 : Vec Ideal S1536x1 .f32) (v6 : Vec Ideal S1x32768 .f32)
  (v11 : Vec Ideal S1536x1 .i32) (r : Fin 1536)

theorem pay2_apply (v : Fin 32768) : k0_pay2 (F := Ideal) v0 v1 v3 v6 (ix2 r v)
    = (∑ d : Fin 2880, v0 (ix2 r d) * v1 (ix2 v d)) * v3 (ix2 r 0) * v6 (ix2 0 v) := by
  pointwise [k0_pay2]

theorem pay4_apply : k0_pay4 (F := Ideal) v11 (ix2 r 0) = IntOp.cmpi .ne (v11 (ix2 r 0)) 4294967196#32 := by
  pointwise [k0_pay4, k0_pay3]

/-- A label, kept inside the vocabulary. -/
abbrev clip (u : BitVec 32) : BitVec 32 := IntOp.minsi 32767#32 (IntOp.maxsi 0#32 u)

theorem pay5_apply (v : Fin 32768) : k0_pay5 (F := Ideal) v11 (ix2 r v) = IntOp.cmpi .eq (BitVec.ofNat 32 v.val) (clip (v11 (ix2 r 0))) := by
  pointwise [k0_pay5, k0_pay3]

/-- The greatest gradient of each group. -/
def aArr (v14 : IVec S1536x1 1) (v21 : IVec S1536x32768 1) (v26 : FVec Ideal S1536x32768 .f32) (v28 : FVec Ideal S1536x1 .f32) : FVec Ideal S1536x8 .f32 :=
  have v39 : FVec Ideal S1536x32768 .f32 := broadcastTo S1536x32768 v28 broadcasts_S1536x1_S1536x32768
  have v40 : FVec Ideal S1536x32768 .f32 := divf v26 v39
  have v41 : IVec S1536x32768 32 := extui 32 v21 natLt_1_32
  have v42 : FVec Ideal S1536x32768 .f32 := sitofp .f32 v41
  have v43 : FVec Ideal S1536x32768 .f32 := subf v40 v42
  have cst_18 : Ideal .f32 := Scalar.ofBits .f32 0x00000000#32
  have v44 : IVec S1536x1 1 := shapeCast S1536x1 v14 shapeCasts_S1536x1_S1536x1
  have v45 : IVec S1536x32768 1 := broadcastTo S1536x32768 v44 broadcasts_S1536x1_S1536x32768
  have v46 : FVec Ideal S1536x32768 .f32 := broadcast S1536x32768 cst_18
  have v47 : FVec Ideal S1536x32768 .f32 := select v45 v43 v46
  have v48 : FVec Ideal S1536x8x4096 .f32 := shapeCast S1536x8x4096 v47 shapeCasts_S1536x32768_S1536x8x4096
  have v49 : FVec Ideal S1536x8x4096 .f32 := absf v48
  have v50 : FVec Ideal S1536x8 .f32 := multiReduction .maximumf [2] S1536x8 v49 0xFF800000#32 reduces_S1536x8x4096_S1536x8 (.inl rfl) rfl
  v50

/-- Each group's exponent, from its greatest gradient. -/
def eArr (a : FVec Ideal S1536x8 .f32) : FVec Ideal S1536x8 .f32 :=
  have cst_20 : Ideal .f32 := Scalar.ofBits .f32 0x37924925#32
  have v51 : FVec Ideal S1536x8 .f32 := broadcast S1536x8 cst_20
  have v52 : FVec Ideal S1536x8 .f32 := mulf a v51
  have v53 : FVec Ideal S1536x8 .f32 := log v52
  have cst_21 : Ideal .f32 := Scalar.ofBits .f32 0x40000000#32
  have v54 : Ideal .f32 := Scalar.log cst_21
  have v55 : FVec Ideal S1536x8 .f32 := broadcast S1536x8 v54
  have v56 : FVec Ideal S1536x8 .f32 := divf v53 v55
  have v57 : FVec Ideal S1536x8 .f32 := floor v56
  have cst_22 : Ideal .f32 := Scalar.ofBits .f32 0x3F800000#32
  have v58 : FVec Ideal S1536x8 .f32 := broadcast S1536x8 cst_22
  have v59 : FVec Ideal S1536x8 .f32 := addf v57 v58
  have cst_23 : Ideal .f32 := Scalar.ofBits .f32 0x00000000#32
  have v60 : FVec Ideal S1536x8 .f32 := broadcast S1536x8 cst_23
  have v61 : IVec S1536x8 1 := cmpf .oeq a v60
  have cst_24 : Ideal .f32 := Scalar.ofBits .f32 0x00000000#32
  have v62 : FVec Ideal S1536x8 .f32 := broadcast S1536x8 cst_24
  have v63 : FVec Ideal S1536x8 .f32 := select v61 v62 v59
  v63

/-- The statistics, from the groups' exponents. -/
def catArr (v14 : IVec S1536x1 1) (v23 : FVec Ideal S1536x1 .f32) (v28 : FVec Ideal S1536x1 .f32) (e : FVec Ideal S1536x8 .f32) : FVec Ideal S1536x128 .f32 :=
  have v64 : FVec Ideal S1536x8 .f32 := exp2 e
  have cst_25 : Ideal .f32 := Scalar.ofBits .f32 0x00000000#32
  have v65 : FVec Ideal S1536x8 .f32 := broadcast S1536x8 cst_25
  have v66 : FVec Ideal S1536x8 .f32 := subf v65 e
  have v67 : FVec Ideal S1536x8 .f32 := exp2 v66
  have v68 : FVec Ideal S1536x8 .f32 := broadcastTo S1536x8 v28 broadcasts_S1536x1_S1536x8
  have v69 : FVec Ideal S1536x8 .f32 := divf v67 v68
  have cst_26 : Ideal .f32 := Scalar.ofBits .f32 0x00000000#32
  have v70 : IVec S1536x1 1 := shapeCast S1536x1 v14 shapeCasts_S1536x1_S1536x1
  have v71 : IVec S1536x8 1 := broadcastTo S1536x8 v70 broadcasts_S1536x1_S1536x8
  have v72 : FVec Ideal S1536x8 .f32 := broadcast S1536x8 cst_26
  have v73 : FVec Ideal S1536x8 .f32 := select v71 v69 v72
  have cst_27 : Ideal .f32 := Scalar.ofBits .f32 0x00000000#32
  have v74 : FVec Ideal S1536x7 .f32 := broadcast S1536x7 cst_27
  have cst_28 : Ideal .f32 := Scalar.ofBits .f32 0x00000000#32
  have v75 : FVec Ideal S1536x96 .f32 := broadcast S1536x96 cst_28
  have v76 : FVec Ideal S1536x128 .f32 := concatenate S1536x128 1 [⟨S1536x1, v23⟩, ⟨S1536x7, v74⟩, ⟨S1536x8, v67⟩, ⟨S1536x8, v73⟩, ⟨S1536x8, v64⟩, ⟨S1536x96, v75⟩] concatenates_S1536x1_S1536x7_S1536x8_S1536x8_S1536x8_S1536x96_S1536x128_d1
  v76

theorem pay1_split (v14 : IVec S1536x1 1) (v21 : IVec S1536x32768 1) (v23 : FVec Ideal S1536x1 .f32) (v26 : FVec Ideal S1536x32768 .f32)
    (v28 : FVec Ideal S1536x1 .f32) : k0_pay1 (F := Ideal) v14 v21 v23 v26 v28 = catArr v14 v23 v28 (eArr (aArr v14 v21 v26 v28)) := rfl

theorem aArr_apply (v14 : IVec S1536x1 1) (v21 : IVec S1536x32768 1) (v26 : FVec Ideal S1536x32768 .f32) (v28 : FVec Ideal S1536x1 .f32) (q : Fin 8)
    (ok : Prop) [Decidable ok] (hv : v14 (ix2 r 0) = if ok then 1#1 else 0#1) (g h : ℕ → EReal) (se : EReal) (hg : ∀ v : Fin 32768, v26 (ix2 r v) = g v.val)
    (hh : ∀ v : Fin 32768, FloatOps.sitofp (F := Ideal) FTy.f32 (BitVec.setWidth 32 (v21 (ix2 r v))) = h v.val) (hs : v28 (ix2 r 0) = se) :
    aArr v14 v21 v26 v28 (ix2 r q)
      = Finset.univ.sup fun x : Fin 4096 => mag (if ok then Ideal.div (g (4096 * q.val + x.val)) se - h (4096 * q.val + x.val) else 0) := by
  have hq := q.isLt
  pointwise [aArr]
  rw [fold_sup, hv, hs]
  refine Finset.sup_congr rfl fun x _ => ?_
  rw [hg, hh, select_ite rfl]
  show mag (if ok then Ideal.div (g (q.val * 4096 + x.val)) se - h (q.val * 4096 + x.val) else 0) = _
  rw [mul_comm q.val 4096]

theorem eArr_apply (a : FVec Ideal S1536x8 .f32) (q : Fin 8) : eArr a (ix2 r q) = if a (ix2 r q) = 0 then 0 else expo (a (ix2 r q) * fac) := by
  have hq := q.isLt
  pointwise [eArr]
  rfl

theorem catArr_apply (v14 : IVec S1536x1 1) (v23 v28 : FVec Ideal S1536x1 .f32) (e : FVec Ideal S1536x8 .f32)
    (ok : Prop) [Decidable ok] (hv : v14 (ix2 r 0) = if ok then 1#1 else 0#1) (E : ℕ → EReal) (hE : ∀ q : Fin 8, e (ix2 r q) = E q.val) (k : Fin 128) :
    catArr v14 v23 v28 e (ix2 r k) = statRow (v23 (ix2 r 0)) (v28 (ix2 r 0)) ok E k.val := by
  have hk := k.isLt
  pointwise [catArr]
  rw [hv]
  simp only [hE, select_ite rfl]
  unfold statRow
  by_cases h0 : k.val < 1
  · rw [dif_pos h0, if_neg (show ¬(24 ≤ k.val ∧ k.val < 32) by omega), if_neg (show ¬(16 ≤ k.val ∧ k.val < 24) by omega), if_neg (show ¬(8 ≤ k.val ∧ k.val < 16) by omega), if_pos (show k.val = 0 by omega)]
    exact congrArg (fun z : Fin 1 => v23 (ix2 r z)) (Subsingleton.elim _ _)
  rw [dif_neg h0]
  by_cases h1 : k.val - 1 < 7
  · rw [dif_pos h1, if_neg (show ¬(24 ≤ k.val ∧ k.val < 32) by omega), if_neg (show ¬(16 ≤ k.val ∧ k.val < 24) by omega), if_neg (show ¬(8 ≤ k.val ∧ k.val < 16) by omega), if_neg (show ¬k.val = 0 by omega)]
  rw [dif_neg h1]
  by_cases h2 : k.val - 1 - 7 < 8
  · rw [dif_pos h2, if_neg (show ¬(24 ≤ k.val ∧ k.val < 32) by omega), if_neg (show ¬(16 ≤ k.val ∧ k.val < 24) by omega), if_pos (show (8 ≤ k.val ∧ k.val < 16) by omega), show k.val - 1 - 7 = k.val - 8 by omega]
    rfl
  rw [dif_neg h2]
  by_cases h3 : k.val - 1 - 7 - 8 < 8
  · rw [dif_pos h3, if_neg (show ¬(24 ≤ k.val ∧ k.val < 32) by omega), if_pos (show (16 ≤ k.val ∧ k.val < 24) by omega), show k.val - 1 - 7 - 8 = k.val - 16 by omega]
    rfl
  rw [dif_neg h3]
  by_cases h4 : k.val - 1 - 7 - 8 - 8 < 8
  · rw [dif_pos h4, if_pos (show (24 ≤ k.val ∧ k.val < 32) by omega), show k.val - 1 - 7 - 8 - 8 = k.val - 24 by omega]
    rfl
  rw [dif_neg h4, if_neg (show ¬(24 ≤ k.val ∧ k.val < 32) by omega), if_neg (show ¬(16 ≤ k.val ∧ k.val < 24) by omega), if_neg (show ¬(8 ≤ k.val ∧ k.val < 16) by omega), if_neg (show ¬k.val = 0 by omega)]

/-! ## A row -/

theorem hot_eq (n : ℕ) (hn : n < 32768) (w : BitVec 32) :
    FloatOps.sitofp (F := Ideal) FTy.f32 (BitVec.setWidth 32 (IntOp.cmpi CmpIPredicate.eq (BitVec.ofNat 32 n) w)) = if n = w.toNat then (1 : EReal) else 0 := by
  have hw : w = BitVec.ofNat 32 w.toNat := by simp
  rw [hw, lane_eq n w.toNat (by omega) w.isLt, ← hw]
  by_cases h : n = w.toNat
  · rw [if_pos h, if_pos h]
    show (((1#32 : BitVec 32).toInt : ℝ) : EReal) = 1
    simp
  · rw [if_neg h, if_neg h]
    show (((0#32 : BitVec 32).toInt : ℝ) : EReal) = 0
    simp

theorem valid_eq (u : BitVec 32) : IntOp.cmpi .ne u 4294967196#32 = if (labWord u).toNat < 32768 then 1#1 else 0#1 := by
  rcases labWord_cases u with ⟨h, e⟩ | ⟨h, e⟩
  · rw [e, h]; decide
  · rw [e, if_pos (clip_lt u)]
    exact IntOp.cmpi_ne.mpr h

theorem fac_coe : ∃ c : ℝ, 0 < c ∧ fac = (c : EReal) := by
  unfold fac
  refine ⟨9586981 * (2 ^ 39)⁻¹, by positivity, ?_⟩
  simp [Ideal.ofBits, Ideal.ieee]

/-- A group's greatest gradient, as the reference takes it. -/
def refA (f : ℕ → EReal) (u : BitVec 32) (q : ℕ) : EReal :=
  Finset.univ.sup fun x : Fin 4096 => mag (if (labWord u).toNat < 32768
    then Ideal.div (Ideal.exp (f (4096 * q + x.val) - mxOf f)) (seOf f) - (if 4096 * q + x.val = (clip u).toNat then 1 else 0) else 0)

theorem mag_zero : mag 0 = 0 := by simp [mag]

/-- The two spellings of a group's exponent agree. -/
theorem expo_eq (f : ℕ → EReal) (u : BitVec 32) (q : ℕ) (hq : q < 8) :
    (if refA f u q = 0 then 0 else expo (refA f u q * fac))
      = laneE (labWord u) (mxOf f) (seOf f) (llOf f (labWord u)) (grp f (labWord u).toNat) q := by
  obtain ⟨c, hc, hf⟩ := fac_coe
  rcases labWord_cases u with ⟨_, e⟩ | ⟨_, e⟩
  · have hn : ¬(labWord u).toNat < 32768 := by rw [e]; decide
    have hA : refA f u q = 0 := by
      unfold refA
      simp only [if_neg hn, mag_zero]
      exact Finset.sup_const ⟨⟨0, by decide⟩, Finset.mem_univ _⟩ 0
    rw [if_pos hA, laneE, if_pos (if_neg (fun h : _ ∧ _ => hn h.1))]
  · have hw : (labWord u).toNat < 32768 := by rw [e]; exact clip_lt u
    have hle : ∀ v : Fin 4096, f (4096 * q + v.val) ≤ mxOf f := fun v => by
      have := v.isLt
      exact Finset.le_sup (f := fun v : Fin 32768 => f v.val) (b := ⟨4096 * q + v.val, by omega⟩) (Finset.mem_univ _)
    have hse := sumExp_cases (n := 32768) (by decide) (fun v => f v.val) (mxOf f) rfl
    have hr : 0 ≤ refA f u q := by
      unfold refA
      refine le_trans ?_ (Finset.le_sup (Finset.mem_univ (⟨0, by decide⟩ : Fin 4096)))
      exact mag_nonneg _
    have hS : Same (if q = (labWord u).toNat / 4096
        then max (Ideal.div (Ideal.exp (grp f (labWord u).toNat q - mxOf f)) (seOf f)) (mag (Ideal.div (Ideal.exp (llOf f (labWord u) - mxOf f)) (seOf f) - 1))
        else Ideal.div (Ideal.exp (grp f (labWord u).toNat q - mxOf f)) (seOf f)) (refA f u q) := by
      unfold refA
      simp only [if_pos hw]
      rw [← show labWord u = clip u from e]
      unfold llOf
      rw [if_pos hw]
      generalize (labWord u).toNat = w at hw ⊢
      by_cases hql : q = w / 4096
      · rw [if_pos hql]
        left
        have hk : ∀ v : Fin 4096, (4096 * q + v.val = w) = (v = (⟨w % 4096, Nat.mod_lt _ (by decide)⟩ : Fin 4096)) := fun v => by
          have := v.isLt
          refine propext ⟨fun h => Fin.ext ?_, fun h => ?_⟩
          · show v.val = w % 4096; omega
          · rw [h]; show 4096 * q + w % 4096 = w; omega
        have hf0 : f w = (fun v : Fin 4096 => f (4096 * q + v.val)) (⟨w % 4096, Nat.mod_lt _ (by decide)⟩ : Fin 4096) := by
          show f w = f (4096 * q + w % 4096)
          congr 1; omega
        rw [hf0]
        unfold grp others
        simp only [hk]
        exact group_label (fun v : Fin 4096 => f (4096 * q + v.val)) (mxOf f) (seOf f) (by decide) _ hle hse
      · rw [if_neg hql]
        have hk : ∀ v : Fin 4096, ¬4096 * q + v.val = w := fun v => by
          have := v.isLt
          omega
        unfold grp others
        simp only [if_neg (hk _)]
        exact group_other (fun v : Fin 4096 => f (4096 * q + v.val)) (mxOf f) (seOf f) (by decide) hle hse
    have key := expo_same expo hS hr hc
    rw [← hf] at key
    have hb : (labWord u).toNat < 32768 ∧ q < 8 := ⟨hw, hq⟩
    simp only [laneE, if_pos hb]
    exact key.symm

variable (f : ℕ → EReal) (hL : ∀ v : Fin 32768, k0_pay2 (F := Ideal) v0 v1 v3 v6 (ix2 r v) = f v.val)

include hL in
theorem pay6_apply : k0_pay6 (F := Ideal) v0 v1 v3 v6 (ix2 r 0) = mxOf f := by
  pointwise [k0_pay6]
  rw [fold_sup]
  simp only [hL]
  rfl

include hL in
theorem pay7_apply (v : Fin 32768) : k0_pay7 (F := Ideal) v0 v1 v3 v6 (ix2 r v) = Ideal.exp (f v.val - mxOf f) := by
  pointwise [k0_pay7]
  rw [hL, pay6_apply v0 v1 v3 v6 r f hL]

include hL in
theorem pay8_apply : k0_pay8 (F := Ideal) v0 v1 v3 v6 (ix2 r 0) = seOf f := by
  pointwise [k0_pay8]
  simp only [pay7_apply v0 v1 v3 v6 r f hL]
  rfl

variable (u : BitVec 32) (hu : v11 (ix2 r 0) = u)

/-- A row's loss, from its parts. -/
def lossArr (v14 : IVec S1536x1 1) (v21 : IVec S1536x32768 1) (v9 : FVec Ideal S1536x32768 .f32) (v23 v28 : FVec Ideal S1536x1 .f32) : FVec Ideal S1536x1 .f32 :=
  have v29 : FVec Ideal S1536x1 .f32 := log v28
  have v30 : FVec Ideal S1536x1 .f32 := addf v23 v29
  have cst_13 : Ideal .f32 := Scalar.ofBits .f32 0x00000000#32
  have v31 : FVec Ideal S1536x32768 .f32 := broadcast S1536x32768 cst_13
  have v32 : FVec Ideal S1536x32768 .f32 := select v21 v9 v31
  have v33 : FVec Ideal S1536 .f32 := multiReduction .add [1] S1536 v32 0x00000000#32 reduces_S1536x32768_S1536 (.inl rfl) rfl
  have v34 : FVec Ideal S1536x1 .f32 := shapeCast S1536x1 v33 shapeCasts_S1536_S1536x1
  have v35 : FVec Ideal S1536x1 .f32 := subf v30 v34
  have cst_15 : Ideal .f32 := Scalar.ofBits .f32 0x00000000#32
  have v36 : FVec Ideal S1536x1 .f32 := broadcast S1536x1 cst_15
  have v37 : FVec Ideal S1536x1 .f32 := select v14 v35 v36
  v37

theorem pay9_split : k0_pay9 (F := Ideal) v0 v1 v3 v6 v11 = lossArr (k0_pay4 (F := Ideal) v11) (k0_pay5 (F := Ideal) v11) (k0_pay2 (F := Ideal) v0 v1 v3 v6)
    (k0_pay6 (F := Ideal) v0 v1 v3 v6) (k0_pay8 (F := Ideal) v0 v1 v3 v6) := rfl

theorem lossArr_apply (v14 : IVec S1536x1 1) (v21 : IVec S1536x32768 1) (v9 : FVec Ideal S1536x32768 .f32) (v23 v28 : FVec Ideal S1536x1 .f32) :
    lossArr v14 v21 v9 v23 v28 (ix2 r 0) = Scalar.select (v14 (ix2 r 0)) (v23 (ix2 r 0) + Ideal.log (v28 (ix2 r 0))
      - ∑ v : Fin 32768, Scalar.select (v21 (ix2 r v)) (v9 (ix2 r v)) 0) 0 := by
  pointwise [lossArr]

theorem sum_hit (g : Fin 32768 → EReal) (w : BitVec 32) (hw : w.toNat < 32768) :
    ∑ v : Fin 32768, Scalar.select (IntOp.cmpi .eq (BitVec.ofNat 32 v.val) w) (g v) 0 = g ⟨w.toNat, hw⟩ := by
  rw [Finset.sum_eq_single (⟨w.toNat, hw⟩ : Fin 32768)]
  · rw [select_eq, if_pos (by simp)]
  · intro b _ hb
    rw [select_eq, if_neg]
    intro h
    apply hb
    apply Fin.ext
    have h2 := congrArg BitVec.toNat h
    have := b.isLt
    rw [BitVec.toNat_ofNat, Nat.mod_eq_of_lt (by omega)] at h2
    exact h2
  · intro h; exact absurd (Finset.mem_univ _) h

include hL hu in
theorem pay9_apply : k0_pay9 (F := Ideal) v0 v1 v3 v6 v11 (ix2 r 0) = lossRow f (labWord u) := by
  rw [pay9_split, lossArr_apply, pay4_apply, hu, valid_eq, select_ite rfl, pay6_apply v0 v1 v3 v6 r f hL, pay8_apply v0 v1 v3 v6 r f hL]
  unfold lossRow
  rcases labWord_cases u with ⟨_, e⟩ | ⟨_, e⟩
  · have hn : ¬(labWord u).toNat < 32768 := by rw [e]; decide
    rw [if_neg hn, if_neg hn]
  · have hw : (labWord u).toNat < 32768 := by rw [e]; exact clip_lt u
    have hs : ∑ v : Fin 32768, Scalar.select (k0_pay5 (F := Ideal) v11 (ix2 r v)) (k0_pay2 (F := Ideal) v0 v1 v3 v6 (ix2 r v)) 0 = llOf f (labWord u) := by
      have h1 := sum_hit (fun v => f v.val) (labWord u) hw
      unfold llOf
      rw [if_pos hw]
      refine Eq.trans (Finset.sum_congr rfl fun v _ => ?_) h1
      rw [pay5_apply, hu, hL, e]
    rw [if_pos hw, if_pos hw, hs]

include hL hu in
theorem stats_apply (k : Fin 128) :
    k0_pay1 (F := Ideal) (k0_pay4 (F := Ideal) v11) (k0_pay5 (F := Ideal) v11) (k0_pay6 (F := Ideal) v0 v1 v3 v6) (k0_pay7 (F := Ideal) v0 v1 v3 v6)
      (k0_pay8 (F := Ideal) v0 v1 v3 v6) (ix2 r k) = statsRow f (labWord u) k.val := by
  have hv : k0_pay4 (F := Ideal) v11 (ix2 r 0) = if (labWord u).toNat < 32768 then 1#1 else 0#1 := by rw [pay4_apply, hu, valid_eq]
  rw [pay1_split]
  refine (catArr_apply r _ _ _ _ ((labWord u).toNat < 32768) hv
    (laneE (labWord u) (mxOf f) (seOf f) (llOf f (labWord u)) (grp f (labWord u).toNat)) (fun q => ?_) k).trans ?_
  · rw [eArr_apply, aArr_apply r _ _ _ _ q _ hv (fun v => Ideal.exp (f v - mxOf f)) (fun v => if v = (clip u).toNat then 1 else 0) (seOf f)
      (pay7_apply v0 v1 v3 v6 r f hL) (fun v => by rw [pay5_apply, hu]; exact hot_eq v.val v.isLt _) (pay8_apply v0 v1 v3 v6 r f hL)]
    exact expo_eq f u q.val q.isLt
  · rw [pay6_apply v0 v1 v3 v6 r f hL, pay8_apply v0 v1 v3 v6 r f hL]
    rfl

/-! ## The output blocks -/

theorem z2 : (![0, 0] : Fin 2 → ℕ) = fun _ => 0 := by
  funext a; fin_cases a <;> rfl

variable (x0 : Vec Ideal S1536x2880 .fp8e4m3) (x1 : Vec Ideal S1536x1 .f32) (x2 : Vec Ideal S32768x2880 .fp8e4m3) (x3 : Vec Ideal S1x32768 .f32)
  (x4 : Vec Ideal S1536x1 .i32) (ws : Vec Ideal ⟨1, ![32768]⟩ .f32) (hws : ∀ v, x3 (ix2 0 v) = ws (ix1 v))

include hws in
theorem row_eq (v : Fin 32768) : k0_pay2 (F := Ideal) x0 x2 x1 x3 (ix2 r v) = lgAt x0 x1 x2 ws r v.val := by
  have e : (⟨v.val % 32768, Nat.mod_lt _ (by decide)⟩ : Fin 32768) = v := Fin.ext (Nat.mod_eq_of_lt v.isLt)
  rw [pay2_apply, hws]
  unfold lgAt
  rw [e]

include hws in
theorem out5_apply (v : Fin 32768) : out0_5 (F := Ideal) x0 x1 x2 x3 x4 (ix2 r v) = lgAt x0 x1 x2 ws r v.val := by
  unfold out0_5 r0_4 r0_0 r0_1 r0_2 r0_3
  rw [View.canon_unit_zero z2]
  simp only [View.ld_unit_zero (S := S1536x2880) z2, View.ld_unit_zero (S := S32768x2880) z2, View.ld_unit_zero (S := S1536x1) z2, View.ld_unit_zero (S := S1x32768) z2]
  exact row_eq r x0 x1 x2 x3 ws hws v

include hws in
theorem out6_apply (h4 : x4 (ix2 r 0) = u) : out0_6 (F := Ideal) x0 x1 x2 x3 x4 (ix2 r 0) = lossRow (lgAt x0 x1 x2 ws r) (labWord u) := by
  unfold out0_6 r0_0 r0_1 r0_2 r0_3
  rw [View.canon_unit_zero z2]
  simp only [View.ld_unit_zero (S := S1536x2880) z2, View.ld_unit_zero (S := S32768x2880) z2, View.ld_unit_zero (S := S1536x1) z2, View.ld_unit_zero (S := S1x32768) z2]
  exact pay9_apply x0 x2 x1 x3 x4 r _ (row_eq r x0 x1 x2 x3 ws hws) u h4

include hws in
theorem out7_apply (h4 : x4 (ix2 r 0) = u) (k : Fin 128) : out0_7 (F := Ideal) x0 x1 x2 x3 x4 (ix2 r k) = statsRow (lgAt x0 x1 x2 ws r) (labWord u) k.val := by
  unfold out0_7 r0_5 r0_0 r0_1 r0_2 r0_3
  rw [View.canon_unit_zero z2]
  simp only [View.ld_unit_zero (S := S1536x2880) z2, View.ld_unit_zero (S := S32768x2880) z2, View.ld_unit_zero (S := S1536x1) z2, View.ld_unit_zero (S := S1x32768) z2]
  exact stats_apply x0 x2 x1 x3 x4 r _ (row_eq r x0 x1 x2 x3 ws hws) u h4 k

/-! ## The arrays -/

variable (m : (ℓ : Loc nD τ sig) → Buf (Elt Ideal) ℓ) (c : Dev nD) (t : Fin cfg0.N)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel

theorem blk0 : iblk m c 0 t = m ((c : Thread nD τ).loc main_arg0) := by
  funext y
  blk_ext [iblk, V, idx0 t]
theorem blk1 : iblk m c 1 t = m ((c : Thread nD τ).loc main_arg1) := by
  funext y
  blk_ext [iblk, V, idx1 t]
theorem blk2 : iblk m c 2 t = m ((c : Thread nD τ).loc main_arg2) := by
  funext y
  blk_ext [iblk, V, idx2 t]
theorem blk3 (v : Fin 32768) : iblk m c 3 t (ix2 0 v) = m ((c : Thread nD τ).loc main_arg3) (ix1 v) := by
  blk_point [iblk, idx3 t]
theorem blk4 (r : Fin 1536) : iblk m c 4 t (ix2 r 0) = m ((c : Thread nD τ).loc main_arg4) (labIx r) := by
  blk_point [iblk, idx4 t]

abbrev aH : Vec Ideal ⟨2, ![1536, 2880]⟩ .fp8e4m3 := m ((c : Thread nD τ).loc main_arg0)
abbrev aHs : Vec Ideal ⟨2, ![1536, 1]⟩ .f32 := m ((c : Thread nD τ).loc main_arg1)
abbrev aW : Vec Ideal ⟨2, ![32768, 2880]⟩ .fp8e4m3 := m ((c : Thread nD τ).loc main_arg2)
abbrev aWs : Vec Ideal ⟨1, ![32768]⟩ .f32 := m ((c : Thread nD τ).loc main_arg3)
abbrev aLab : Vec Ideal ⟨2, ![6, 256]⟩ .i32 := m ((c : Thread nD τ).loc main_arg4)

theorem arr5_eq : (dats m 0 c).arrAt 5 cfg0.N = (fun i : S1536x32768.Idx => lgAt (aH m c) (aHs m c) (aW m c) (aWs m c) (i 0) (i 1).val) := by
  refine (dats m 0 c).arrAt_eq_of_covers 5 _ (by decide +kernel) fun t hf y => ?_
  blk_simp
  rw [after0_5]
  obtain ⟨r, d, rfl⟩ : ∃ (r : Fin 1536) (d : Fin 32768), y = ix2 r d := ⟨y 0, y 1, eq_ix2 y⟩
  have e : (win0_5.blk t).view.emb (ix2 r d) = ix2 r d := by blk_ext [idx5 t]
  rw [e]
  refine (out5_apply r _ _ _ _ _ (aWs m c) (fun v => blk3 m c t v) d).trans ?_
  rw [blk0, blk1, blk2]
  have i1 : win0_5.index t 1 * 32768 + d.val = d.val := by rw [idx5 t]; exact (congrArg (· + d.val) (Nat.zero_mul _)).trans (Nat.zero_add _)
  exact congrArg (lgAt (aH m c) (aHs m c) (aW m c) (aWs m c) r) i1.symm

theorem arr6_eq : (dats m 0 c).arrAt 6 cfg0.N
    = (fun i : S1536x1.Idx => lossRow (lgAt (aH m c) (aHs m c) (aW m c) (aWs m c) (i 0)) (labWord (aLab m c (labIx (i 0))))) := by
  refine (dats m 0 c).arrAt_eq_of_covers 6 _ (by decide +kernel) fun t hf y => ?_
  blk_simp
  rw [after0_6]
  obtain ⟨r, d, rfl⟩ : ∃ (r : Fin 1536) (d : Fin 1), y = ix2 r d := ⟨y 0, y 1, eq_ix2 y⟩
  obtain rfl : d = 0 := Subsingleton.elim _ _
  have e : (win0_6.blk t).view.emb (ix2 r 0) = ix2 r 0 := by blk_ext [idx6 t]
  rw [e]
  refine (out6_apply r _ _ _ _ _ _ (aWs m c) (fun v => blk3 m c t v) (blk4 m c t r)).trans ?_
  rw [blk0, blk1, blk2]
  rfl

theorem arr7_eq : (dats m 0 c).arrAt 7 cfg0.N
    = (fun i : S1536x128.Idx => statsRow (lgAt (aH m c) (aHs m c) (aW m c) (aWs m c) (i 0)) (labWord (aLab m c (labIx (i 0)))) (i 1).val) := by
  refine (dats m 0 c).arrAt_eq_of_covers 7 _ (by decide +kernel) fun t hf y => ?_
  blk_simp
  rw [after0_7]
  obtain ⟨r, d, rfl⟩ : ∃ (r : Fin 1536) (d : Fin 128), y = ix2 r d := ⟨y 0, y 1, eq_ix2 y⟩
  have e : (win0_7.blk t).view.emb (ix2 r d) = ix2 r d := by blk_ext [idx7 t]
  rw [e]
  refine (out7_apply r _ _ _ _ _ _ (aWs m c) (fun v => blk3 m c t v) (blk4 m c t r) d).trans ?_
  rw [blk0, blk1, blk2]
  have i1 : win0_7.index t 1 * 128 + d.val = d.val := by rw [idx7 t]; exact (congrArg (· + d.val) (Nat.zero_mul _)).trans (Nat.zero_add _)
  exact congrArg (statsRow (lgAt (aH m c) (aHs m c) (aW m c) (aWs m c) r) (labWord (aLab m c (labIx r)))) i1.symm

end Cert.RefForwardIdeal.Hand
end
-- ==== Proof.ForwardClaim.lean ====
/- The value claim of the forward kernel: its three arrays are the reference's, over the extended reals (hand-written, untrusted). -/
module

public import proofs.«01_k».proof.Defs
public import proofs.«01_k».proof.Proof.RefForward

@[expose] public section

noncomputable section

namespace Cert.Proof

open Idealize.ShloMosaic Idealize.SL.Sem
open Cert.ForwardIdeal.Hand (lgAt lossRow statsRow labWord labIx aH aHs aW aWs aLab)

theorem algebraic_forward : Cert.algebraic_ForwardIdeal_RefForwardIdeal := by
  intro m g m' g' _ hag
  refine ⟨fun c => fun i : Cert.ForwardIdeal.S1536x32768.Idx => lgAt (aH m c) (aHs m c) (aW m c) (aWs m c) (i 0) (i 1).val,
    fun c => fun i : Cert.ForwardIdeal.S1536x1.Idx => lossRow (lgAt (aH m c) (aHs m c) (aW m c) (aWs m c) (i 0)) (labWord (aLab m c (labIx (i 0)))),
    fun c => fun i : Cert.ForwardIdeal.S1536x128.Idx =>
      statsRow (lgAt (aH m c) (aHs m c) (aW m c) (aWs m c) (i 0)) (labWord (aLab m c (labIx (i 0)))) (i 1).val, ?_, ?_⟩
  · refine (θ_run _ _ _).mono (fun r h c => ?_) (Cert.ForwardIdeal.Value.run (F := Ideal) m g)
    obtain ⟨h5, h6, h7, ha⟩ := h c
    refine ⟨h5.trans ?_, h6.trans ?_, h7.trans ?_, ha⟩
    · funext i
      obtain ⟨r, v, rfl⟩ : ∃ (r : Fin 1536) (v : Fin 32768), i = ix2 r v := ⟨i 0, i 1, eq_ix2 i⟩
      exact Cert.ForwardIdeal.Hand.G5_apply m c r v
    · funext i
      obtain ⟨r, z, rfl⟩ : ∃ (r : Fin 1536) (z : Fin 1), i = ix2 r z := ⟨i 0, i 1, eq_ix2 i⟩
      obtain rfl : z = 0 := Subsingleton.elim _ _
      exact Cert.ForwardIdeal.Hand.G6_apply m c r
    · funext i
      obtain ⟨r, k, rfl⟩ : ∃ (r : Fin 1536) (k : Fin 128), i = ix2 r k := ⟨i 0, i 1, eq_ix2 i⟩
      exact Cert.ForwardIdeal.Hand.G7_apply m c r k
  · refine (θ_run _ _ _).mono (fun r h c => ?_) (Cert.RefForwardIdeal.Value.run_blocks (F := Ideal) m' g')
    obtain ⟨h5, h6, h7, ha⟩ := h c
    obtain ⟨e0, e1, e2, e3, e4⟩ := hag c
    have f0 : Cert.RefForwardIdeal.Hand.aH m' c = aH m c := e0
    have f1 : Cert.RefForwardIdeal.Hand.aHs m' c = aHs m c := e1
    have f2 : Cert.RefForwardIdeal.Hand.aW m' c = aW m c := e2
    have f3 : Cert.RefForwardIdeal.Hand.aWs m' c = aWs m c := e3
    have f4 : Cert.RefForwardIdeal.Hand.aLab m' c = aLab m c := e4
    refine ⟨h5.trans ((Cert.RefForwardIdeal.Hand.arr5_eq m' c).trans ?_), h6.trans ((Cert.RefForwardIdeal.Hand.arr6_eq m' c).trans ?_),
      h7.trans ((Cert.RefForwardIdeal.Hand.arr7_eq m' c).trans ?_), ha⟩
    · rw [f0, f1, f2, f3]
    · rw [f0, f1, f2, f3, f4]
    · rw [f0, f1, f2, f3, f4]

end Cert.Proof

end
-- ==== Proof.Quantise.lean ====
/- The quantiser's kernel: a row's scale and codes at an index of the arrays (hand-written, untrusted). -/
module

public import proofs.«01_k».proof.Proof.ForwardFinal
public import proofs.«01_k».proof.Proof.Gen.QuantiseIdeal.Value
public import Idealize.ShloMosaic.Lib.Claim
public import Idealize.ShloMosaic.Lib.Pipeline.ValueKit
public import Idealize.ShloMosaic.Lib.StableHlo.RunRead

@[expose] public section

set_option maxRecDepth 16384

noncomputable section

open scoped BigOperators

namespace Cert.QuantiseIdeal.Hand

open Cert.QuantiseIdeal Cert.QuantiseIdeal.Gen Cert.ForwardMath Idealize.ShloMosaic Idealize.ShloMosaic.TcCoe Idealize.SL.Sem
open Cert.ForwardIdeal.Hand (expo select_ite)

/-! ## What a row becomes -/

/-- One over the codes' largest magnitude, as the text spells it. -/
def qfac : EReal := Ideal.ofBits .f32 0x3B124925#32

theorem qfac_coe : ∃ c : ℝ, 0 < c ∧ qfac = (c : EReal) := by
  unfold qfac
  refine ⟨9586981 * (2 ^ 32)⁻¹, by positivity, ?_⟩
  simp [Ideal.ofBits, Ideal.ieee]

/-- A row's greatest magnitude. -/
def amaxOf (x : Fin 2880 → EReal) : EReal := Finset.univ.sup fun d => mag (x d)

theorem amaxOf_nonneg (x : Fin 2880 → EReal) : 0 ≤ amaxOf x :=
  le_trans (mag_nonneg (x ⟨0, by decide⟩)) (Finset.le_sup (f := fun d => mag (x d)) (Finset.mem_univ _))

/-- The exponent of a row's scale, from the row's greatest magnitude. -/
def exOf (a : EReal) : EReal := if a = 0 then 0 else expo (a * qfac)

/-- A row's scale. -/
def scaleOf (x : Fin 2880 → EReal) : EReal := Ideal.exp2 (exOf (amaxOf x))

/-- A row's codes. -/
def codeOf (x : Fin 2880 → EReal) (d : Fin 2880) : EReal :=
  min (Ideal.ofBits .f32 0x43E00000#32) (max (Ideal.ofBits .f32 0xC3E00000#32) (x d * Ideal.exp2 (0 - exOf (amaxOf x))))

theorem fold_sup {n : ℕ} (f : Fin n → EReal) : Finset.fold max (Ideal.ofBits .f32 0xFF800000#32) f Finset.univ = Finset.univ.sup f := by
  rw [Cert.ForwardIdeal.Hand.neg_inf]; rfl

/-! ## The body at an index -/

variable (x : Vec Ideal S256x2880 .bf16) (r : Fin 256)

theorem pay1_apply (d : Fin 2880) : k0_pay1 (F := Ideal) x (ix2 r d) = x (ix2 r d) :=
  shapeCast_apply _ _ _ _ rfl

theorem pay2_apply : k0_pay2 (F := Ideal) x (ix2 r 0) = exOf (amaxOf fun d => x (ix2 r d)) := by
  obtain ⟨c, hc, hf⟩ := qfac_coe
  have h := expo_same expo (Or.inl rfl : Same _ _) (amaxOf_nonneg fun d => x (ix2 r d)) hc
  rw [← hf] at h
  refine Eq.trans ?_ h
  pointwise [k0_pay2]
  simp only [pay1_apply, fold_sup]
  rfl

theorem pay3_apply (d : Fin 2880) : k0_pay3 (F := Ideal) x (ix2 r d) = codeOf (fun d => x (ix2 r d)) d := by
  pointwise [k0_pay3]
  rw [pay1_apply, pay2_apply]
  rfl

theorem pay4_apply : k0_pay4 (F := Ideal) x (ix2 r 0) = scaleOf fun d => x (ix2 r d) := by
  pointwise [k0_pay4]
  rw [pay2_apply]
  rfl

/-! ## The output blocks -/

theorem z2 : (![0, 0] : Fin 2 → ℕ) = fun _ => 0 := by
  funext a; fin_cases a <;> rfl

theorem out1_apply (d : Fin 2880) : out0_1 (F := Ideal) x (ix2 r d) = codeOf (fun d => x (ix2 r d)) d := by
  unfold out0_1 r0_0
  rw [View.canon_unit_zero z2]
  simp only [View.ld_unit_zero (S := S256x2880) z2]
  exact pay3_apply x r d

theorem out2_apply : out0_2 (F := Ideal) x (ix2 r 0) = scaleOf fun d => x (ix2 r d) := by
  unfold out0_2 r0_1 r0_0
  rw [View.canon_unit_zero z2]
  simp only [View.ld_unit_zero (S := S256x2880) z2]
  exact pay4_apply x r

/-! ## The arrays -/

variable (m : (ℓ : Loc nD τ sig) → Buf (Elt Ideal) ℓ) (c : Dev nD) (t : Fin cfg0.N)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel

theorem t_lt : t.val < 6 := lt_of_lt_of_eq t.isLt N_0

/-- Row `R` of the 6 × 256 rows of an array. -/
def rowOf (X : Vec Ideal ⟨3, ![6, 256, 2880]⟩ .bf16) (R : ℕ) (d : Fin 2880) : EReal :=
  X (ix3 ⟨R / 256 % 6, Nat.mod_lt _ (by decide)⟩ ⟨R % 256, Nat.mod_lt _ (by decide)⟩ d)

abbrev aX : Vec Ideal ⟨3, ![6, 256, 2880]⟩ .bf16 := m ((c : Thread nD τ).loc main_arg0)

theorem V0 (i : S1536x2880.Idx) : V m c main_v0 i = shapeCast S1536x2880 (aX m c) shapeCasts_S6x256x2880_S1536x2880 i := by
  unfold V hostOps0
  after_reads_simp
  rfl

theorem blk0 (d : Fin 2880) : iblk m c 0 t (ix2 r d) = rowOf (aX m c) (256 * t.val + r.val) d := by
  have ht := t_lt t
  have hr := r.isLt
  have e : (win0_0.blk t).view.emb (ix2 r d) = ix2 (⟨256 * t.val + r.val, by omega⟩ : Fin 1536) d := by
    blk_ext [idx0 t]
  refine (congrArg (V m c main_v0) e).trans ((V0 m c _).trans ?_)
  refine shapeCast_apply _ _ _ _ ((Shape.rowMajor_val_three _).trans (Eq.trans ?_ (Shape.rowMajor_val_two _).symm))
  show ((256 * t.val + r.val) / 256 % 6 * 256 + (256 * t.val + r.val) % 256) * 2880 + d.val = (256 * t.val + r.val) * 2880 + d.val
  omega

/-- The codes' array. -/
def codesArr (X : Vec Ideal ⟨3, ![6, 256, 2880]⟩ .bf16) : Vec Ideal S1536x2880 .fp8e4m3 := fun i => codeOf (rowOf X (i 0).val) (i 1)
/-- The scales' array. -/
def scaleArr (X : Vec Ideal ⟨3, ![6, 256, 2880]⟩ .bf16) : Vec Ideal S1536x1 .f32 := fun i => scaleOf (rowOf X (i 0).val)

theorem arr1_eq : (dats m 0 c).arrAt 1 cfg0.N = codesArr (aX m c) := by
  refine (dats m 0 c).arrAt_eq_of_covers 1 _ (by decide +kernel) fun t hf y => ?_
  blk_simp
  rw [after0_1]
  obtain ⟨r, d, rfl⟩ : ∃ (r : Fin 256) (d : Fin 2880), y = ix2 r d := ⟨y 0, y 1, eq_ix2 y⟩
  have ht := t_lt t
  have hr := r.isLt
  have e : (win0_1.blk t).view.emb (ix2 r d) = ix2 (⟨256 * t.val + r.val, by omega⟩ : Fin 1536) d := by blk_ext [idx1 t]
  rw [e]
  refine (out1_apply _ r d).trans ?_
  simp only [blk0]
  rfl

theorem arr2_eq : (dats m 0 c).arrAt 2 cfg0.N = scaleArr (aX m c) := by
  refine (dats m 0 c).arrAt_eq_of_covers 2 _ (by decide +kernel) fun t hf y => ?_
  blk_simp
  rw [after0_2]
  obtain ⟨r, d, rfl⟩ : ∃ (r : Fin 256) (d : Fin 1), y = ix2 r d := ⟨y 0, y 1, eq_ix2 y⟩
  obtain rfl : d = 0 := Subsingleton.elim _ _
  have ht := t_lt t
  have hr := r.isLt
  have e : (win0_2.blk t).view.emb (ix2 r 0) = ix2 (⟨256 * t.val + r.val, by omega⟩ : Fin 1536) 0 := by blk_ext [idx2 t]
  rw [e]
  refine (out2_apply _ r).trans ?_
  simp only [blk0]
  rfl

end Cert.QuantiseIdeal.Hand

end
-- ==== Proof.RefQuantise.lean ====
/- What the arrays of the reference for the quantiser end holding, and the value claim of the quantiser, over the extended reals (hand-written, untrusted). -/
module

public import proofs.«01_k».proof.Defs
public import proofs.«01_k».proof.Proof.Quantise
public import proofs.«01_k».proof.Proof.Gen.RefQuantiseIdeal.Run

@[expose] public section

set_option maxRecDepth 16384

noncomputable section

open scoped BigOperators

namespace Cert.RefQuantiseIdeal.Hand

open Cert.RefQuantiseIdeal Cert.RefQuantiseIdeal.Gen Cert.ForwardMath Idealize.ShloMosaic Idealize.ShloMosaic.TcCoe Idealize.SL.Sem
open Cert.ForwardIdeal.Hand (expo select_ite)
open Cert.QuantiseIdeal.Hand (qfac amaxOf exOf scaleOf codeOf fold_sup rowOf codesArr scaleArr)

theorem two_coe : Ideal.ofBits .f32 0x40000000#32 = ((2 : ℝ) : EReal) := by
  simp [Ideal.ofBits, Ideal.ieee]
  rw [← EReal.coe_mul]
  norm_num

/-- Two to a power is the power of two, at the infinities too. -/
theorem pow_two (y : EReal) : Ideal.pow (Ideal.ofBits .f32 0x40000000#32) y = Ideal.exp2 y := by
  rw [two_coe]
  induction y with
  | bot => simp
  | top => simp
  | coe r => rfl

variable (X : FVec Ideal S6x256x2880 .bf16) (p : Fin 6) (s : Fin 256)

/-- Each row's greatest magnitude, as the reference takes it. -/
def rawA : FVec Ideal S6x256 .f32 :=
  Host.reduce FloatOps.maximumf (Host.absf (extf .f32 X bitsLt_bf16_f32)) (constant S_ .f32 0xFF800000#32) reducesTo_S6x256x2880_S6x256_d2 h_S_

/-- Each row's exponent, from its greatest magnitude. -/
def rawE (a : FVec Ideal S6x256 .f32) : FVec Ideal S6x256 .f32 :=
  select (cmpf .oeq a (broadcastInDim S6x256 ![] bcast_S_S6x256 (constant S_ .f32 0x00000000#32)))
    (broadcastInDim S6x256 ![] bcast_S_S6x256 (id (constant S_ .f32 0x00000000#32)))
    (addf (Host.floor (Host.divf (Host.log (mulf a (broadcastInDim S6x256 ![] bcast_S_S6x256 (constant S_ .f32 0x3B124925#32))))
      (broadcastInDim S6x256 ![] bcast_S_S6x256 (Host.log (constant S_ .f32 0x40000000#32)))))
      (broadcastInDim S6x256 ![] bcast_S_S6x256 (constant S_ .f32 0x3F800000#32)))

/-- Two to each row's exponent. -/
def rawP (e : FVec Ideal S6x256 .f32) : FVec Ideal S6x256 .f32 :=
  Host.powf (broadcastInDim S6x256 ![] bcast_S_S6x256 (constant S_ .f32 0x40000000#32)) e

/-- The codes, from each row's factor. -/
def rawC (f : FVec Ideal S6x256 .f32) : FVec Ideal S6x256x2880 .fp8e4m3 :=
  Host.convertf .fp8e4m3 (minimumf (broadcastInDim S6x256x2880 ![] bcast_S_S6x256x2880 (id (constant S_ .f32 0x43E00000#32)))
    (maximumf (broadcastInDim S6x256x2880 ![] bcast_S_S6x256x2880 (id (constant S_ .f32 0xC3E00000#32)))
      (mulf (extf .f32 X bitsLt_bf16_f32) (broadcastInDim S6x256x2880 ![0, 1, 2] bcast_S6x256x1_S6x256x2880_0_1_2
        (broadcastInDim S6x256x1 ![0, 1] bcast_S6x256_S6x256x1_0_1 f)))))

theorem rawA_apply : rawA X (ix2 p s) = amaxOf fun d => X (ix3 p s d) := by
  pointwise [rawA]
  rw [fold_sup]
  rfl

theorem zero_const : id (constant (F := Ideal) S_ .f32 0x00000000#32) ix0 = (0 : EReal) := by
  show Ideal.ofBits .f32 0x00000000#32 = 0
  simp [Ideal.ofBits, Ideal.ieee]

theorem rawE_apply (a : FVec Ideal S6x256 .f32) : rawE a (ix2 p s) = exOf (a (ix2 p s)) := by
  pointwise [rawE]
  rw [zero_const]
  rfl

theorem rawP_apply (e : FVec Ideal S6x256 .f32) : rawP e (ix2 p s) = Ideal.exp2 (e (ix2 p s)) :=
  pow_two _

theorem rawC_apply (f : FVec Ideal S6x256 .f32) (d : Fin 2880) : rawC X f (ix3 p s d)
    = min (Ideal.ofBits .f32 0x43E00000#32) (max (Ideal.ofBits .f32 0xC3E00000#32) (X (ix3 p s d) * f (ix2 p s))) := by
  pointwise [rawC]
  rfl

theorem neg_apply (e : FVec Ideal S6x256 .f32) : Host.negf e (ix2 p s) = 0 - e (ix2 p s) := by
  show -(e (ix2 p s)) = 0 - e (ix2 p s)
  rw [zero_sub]

/-- The reference's code of a row's entry. -/
theorem code_row (d : Fin 2880) : rawC X (rawP (Host.negf (rawE (rawA X)))) (ix3 p s d) = codeOf (fun d => X (ix3 p s d)) d := by
  rw [rawC_apply, rawP_apply, neg_apply, rawE_apply, rawA_apply, codeOf]

/-- The reference's scale of a row. -/
theorem scale_row : rawP (rawE (rawA X)) (ix2 p s) = scaleOf (fun d => X (ix3 p s d)) := by
  rw [rawP_apply, rawE_apply, rawA_apply, scaleOf]

/-- A token's batch. -/
abbrev bOf (R : Fin 1536) : Fin 6 := ⟨R.val / 256 % 6, Nat.mod_lt _ (by decide)⟩
/-- A token's place in its batch. -/
abbrev sOf (R : Fin 1536) : Fin 256 := ⟨R.val % 256, Nat.mod_lt _ (by decide)⟩

/-- The three-axis array, read by token and entry. -/
theorem cast_codes (Y : FVec Ideal S6x256x2880 .fp8e4m3) (R : Fin 1536) (d : Fin 2880) :
    shapeCast S1536x2880 Y shapeCasts_S6x256x2880_S1536x2880 (ix2 R d) = Y (ix3 (bOf R) (sOf R) d) := by
  have hR := R.isLt
  refine shapeCast_apply _ _ _ _ ((Shape.rowMajor_val_three _).trans (Eq.trans ?_ (Shape.rowMajor_val_two _).symm))
  show (R.val / 256 % 6 * 256 + R.val % 256) * 2880 + d.val = R.val * 2880 + d.val
  omega

/-- The array of rows, read by token. -/
theorem cast_scale (Y : FVec Ideal S6x256 .f32) (R : Fin 1536) :
    shapeCast S1536x1 Y shapeCasts_S6x256_S1536x1 (ix2 R 0) = Y (ix2 (bOf R) (sOf R)) := by
  have hR := R.isLt
  refine shapeCast_apply _ _ _ _ ((Shape.rowMajor_val_two _).trans (Eq.trans ?_ (Shape.rowMajor_val_two _).symm))
  show R.val / 256 % 6 * 256 + R.val % 256 = R.val * 1 + 0
  omega

/-- The reference's codes at a token and an entry. -/
theorem codes_apply (R : Fin 1536) (d : Fin 2880) :
    shapeCast S1536x2880 (rawC X (rawP (Host.negf (rawE (rawA X))))) shapeCasts_S6x256x2880_S1536x2880 (ix2 R d) = codeOf (rowOf X R.val) d :=
  (cast_codes _ R d).trans (code_row X (bOf R) (sOf R) d)

/-- The reference's scale of a token. -/
theorem scale_apply (R : Fin 1536) :
    shapeCast S1536x1 (rawP (rawE (rawA X))) shapeCasts_S6x256_S1536x1 (ix2 R 0) = scaleOf (rowOf X R.val) :=
  (cast_scale _ R).trans (scale_row X (bOf R) (sOf R))

end Cert.RefQuantiseIdeal.Hand

namespace Cert.Proof

open Idealize.ShloMosaic Idealize.SL.Sem
open Cert.QuantiseIdeal.Hand (aX codesArr scaleArr)

/-- The quantiser's reference runs and leaves its argument unchanged; it declares no semaphore. -/
theorem frame_refQuantise : Cert.quiescent_RefQuantiseIdeal := fun m ρ _ =>
  (θ_run Cert.RefQuantiseIdeal.defs _ _).mono (fun r h => ⟨fun c => (h c).2.2,
      Idealize.ShloMosaic.sem_eq_zero_of_no_sems (by decide) r.2⟩)
    (Cert.RefQuantiseIdeal.Value.run (F := Ideal) m ρ)

/-- The quantiser's codes and scales are the reference's, over the extended reals. -/
theorem algebraic_quantise : Cert.algebraic_QuantiseIdeal_RefQuantiseIdeal := by
  intro m g m' g' _ hag
  refine ⟨fun c => codesArr (aX m c), fun c => scaleArr (aX m c), ?_, ?_⟩
  · refine (θ_run _ _ _).mono (fun r h c => ?_) (Cert.QuantiseIdeal.Value.run_blocks (F := Ideal) m g)
    obtain ⟨h1, h2, ha⟩ := h c
    exact ⟨h1.trans (Cert.QuantiseIdeal.Hand.arr1_eq m c), h2.trans (Cert.QuantiseIdeal.Hand.arr2_eq m c), ha⟩
  · refine (θ_run _ _ _).mono (fun r h c => ?_) (Cert.RefQuantiseIdeal.Value.run (F := Ideal) m' g')
    obtain ⟨h1, h2, ha⟩ := h c
    have e0 := hag c
    refine ⟨h1.trans ?_, h2.trans ?_, ha⟩
    · rw [e0]
      funext i
      obtain ⟨R, d, rfl⟩ : ∃ (R : Fin 1536) (d : Fin 2880), i = ix2 R d := ⟨i 0, i 1, eq_ix2 i⟩
      exact Cert.RefQuantiseIdeal.Hand.codes_apply (aX m c) R d
    · rw [e0]
      funext i
      obtain ⟨R, z, rfl⟩ : ∃ (R : Fin 1536) (z : Fin 1), i = ix2 R z := ⟨i 0, i 1, eq_ix2 i⟩
      obtain rfl : z = 0 := Subsingleton.elim _ _
      exact Cert.RefQuantiseIdeal.Hand.scale_apply (aX m c) R

end Cert.Proof

end
-- ==== Proof.lean ====
module

public import proofs.«01_k».proof.Defs
public import proofs.«01_k».proof.Proof.Gen.Backward
public import proofs.«01_k».proof.Proof.Gen.Backward.Skeleton
public import proofs.«01_k».proof.Proof.Gen.Backward.Launch
public import proofs.«01_k».proof.Proof.Gen.Backward.Points
public import proofs.«01_k».proof.Proof.Gen.Backward.Frame
public import proofs.«01_k».proof.Proof.Gen.BackwardIdeal
public import proofs.«01_k».proof.Proof.Gen.BackwardIdeal.Skeleton
public import proofs.«01_k».proof.Proof.Gen.BackwardIdeal.Launch
public import proofs.«01_k».proof.Proof.Gen.BackwardIdeal.Points
public import proofs.«01_k».proof.Proof.Gen.BackwardIdeal.Frame
public import proofs.«01_k».proof.Proof.Gen.RefBackwardIdeal
public import proofs.«01_k».proof.Proof.Gen.RefBackwardIdeal.Skeleton
public import proofs.«01_k».proof.Proof.Gen.RefBackwardIdeal.Launch
public import proofs.«01_k».proof.Proof.Gen.RefBackwardIdeal.Points
public import proofs.«01_k».proof.Proof.Gen.RefBackwardIdeal.Frame
public import proofs.«01_k».proof.Proof.Gen.BackwardIdeal.Value
public import proofs.«01_k».proof.Proof.Gen.RefBackwardIdeal.Value
public import proofs.«01_k».proof.Proof.BackwardClaim
public import proofs.«01_k».proof.Proof.Gen.Forward.Frame
public import proofs.«01_k».proof.Proof.Gen.ForwardIdeal.Frame
public import proofs.«01_k».proof.Proof.Gen.RefForwardIdeal.Frame
public import proofs.«01_k».proof.Proof.Gen.ForwardIdeal.Value
public import proofs.«01_k».proof.Proof.Gen.RefForwardIdeal.Value
public import proofs.«01_k».proof.Proof.ForwardClaim
public import proofs.«01_k».proof.Proof.Gen.Quantise.Frame
public import proofs.«01_k».proof.Proof.Gen.QuantiseIdeal.Frame
public import proofs.«01_k».proof.Proof.Gen.QuantiseIdeal.Value
public import proofs.«01_k».proof.Proof.Gen.RefQuantiseIdeal.Run
public import proofs.«01_k».proof.Proof.RefQuantise
public import Idealize.ShloMosaic.Adequacy
public import Idealize.ShloMosaic.Init

@[expose] public section

noncomputable section

namespace Cert.Proof

open Idealize.ShloMosaic Idealize.SL.Sem Cert.Backward

theorem claim : Cert.Claim := ⟨Cert.Backward.Gen.facts, Cert.BackwardIdeal.Gen.facts, Cert.RefBackwardIdeal.Gen.facts,
  Cert.Forward.Gen.facts, Cert.ForwardIdeal.Gen.facts, Cert.RefForwardIdeal.Gen.facts,
  Cert.Quantise.Gen.facts, Cert.QuantiseIdeal.Gen.facts, Cert.RefQuantiseIdeal.Gen.facts,
  fun m ρ _ => Cert.Backward.Gen.frame m ρ,
  fun m ρ _ => Cert.BackwardIdeal.Gen.frame m ρ,
  fun m ρ _ => Cert.RefBackwardIdeal.Gen.frame m ρ,
  fun m ρ _ => Cert.Forward.Gen.frame m ρ,
  fun m ρ _ => Cert.ForwardIdeal.Gen.frame m ρ,
  fun m ρ _ => Cert.RefForwardIdeal.Gen.frame m ρ,
  fun m ρ _ => Cert.Quantise.Gen.frame m ρ,
  fun m ρ _ => Cert.QuantiseIdeal.Gen.frame m ρ,
  frame_refQuantise,
  trivial, algebraic_backward, trivial, algebraic_forward, trivial, algebraic_quantise⟩

end Cert.Proof

end
